-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![16384, 1024]⟩ ⟨2, ![32768, 1024]⟩ (Layout.meshBlock [2, 2, 4] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S2x1024x1024 : Shape := ⟨3, ![2, 1024, 1024]⟩
abbrev S8x1024x1024 : Shape := ⟨3, ![8, 1024, 1024]⟩
abbrev S2 : Shape := ⟨1, ![2]⟩
abbrev S8 : Shape := ⟨1, ![8]⟩
abbrev S16 : Shape := ⟨1, ![16]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16384x1024, .f32⟩
  | .hbm, ⟨1, _⟩ => ⟨S32768x1024, .bf16⟩
  | .local _ .vmem, ⟨0, _⟩ => ⟨S2x1024x1024, .f32⟩
  | .local _ .vmem, ⟨1, _⟩ => ⟨S8x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_30 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v17 : BitVec 32 := Scalar.muli v5 c16384_i32
  let v39 : BitVec 32 := Scalar.addi v17 c0_i32_30
  let c0_i32_38 : BitVec 32 := 0#32
  ![v39.toNat, 0]
def k0_dev2 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v40 : BitVec 32 := Scalar.muli v2 c8_i32_34
  let v41 : BitVec 32 := Scalar.addi c0_i32_35 v40
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_36 : BitVec 32 := 4#32
  let v42 : BitVec 32 := Scalar.muli v9 c4_i32_36
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v44 : BitVec 32 := Scalar.muli v8 c1_i32_37
  let v45 : BitVec 32 := Scalar.addi v43 v44
  v45.toNat
def k0_dev3 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v76 : BitVec 32 := Scalar.muli v2 c8_i32_67
  let v77 : BitVec 32 := Scalar.addi c0_i32_68 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_69 : BitVec 32 := 4#32
  let v78 : BitVec 32 := Scalar.muli v9 c4_i32_69
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v80 : BitVec 32 := Scalar.muli v8 c1_i32_70
  let v81 : BitVec 32 := Scalar.addi v79 v80
  v81.toNat
def k0_dev4 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v112 : BitVec 32 := Scalar.muli v2 c8_i32_100
  let v113 : BitVec 32 := Scalar.addi c0_i32_101 v112
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_102 : BitVec 32 := 4#32
  let v114 : BitVec 32 := Scalar.muli v9 c4_i32_102
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v116 : BitVec 32 := Scalar.muli v8 c1_i32_103
  let v117 : BitVec 32 := Scalar.addi v115 v116
  v117.toNat
def k0_dev5 (d0 : Dev nD) : Nat :=
  let c0_i32_133 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_132 : BitVec 32 := 8#32
  let v148 : BitVec 32 := Scalar.muli v2 c8_i32_132
  let v149 : BitVec 32 := Scalar.addi c0_i32_133 v148
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_134 : BitVec 32 := 4#32
  let v150 : BitVec 32 := Scalar.muli v9 c4_i32_134
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v152 : BitVec 32 := Scalar.muli v8 c1_i32_135
  let v153 : BitVec 32 := Scalar.addi v151 v152
  v153.toNat
def k0_dev6 (d0 : Dev nD) : Nat :=
  let c0_i32_166 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_165 : BitVec 32 := 8#32
  let v184 : BitVec 32 := Scalar.muli v2 c8_i32_165
  let v185 : BitVec 32 := Scalar.addi c0_i32_166 v184
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_167 : BitVec 32 := 4#32
  let v186 : BitVec 32 := Scalar.muli v9 c4_i32_167
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v188 : BitVec 32 := Scalar.muli v8 c1_i32_168
  let v189 : BitVec 32 := Scalar.addi v187 v188
  v189.toNat
def k0_dev7 (d0 : Dev nD) : Nat :=
  let c0_i32_198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_197 : BitVec 32 := 8#32
  let v220 : BitVec 32 := Scalar.muli v2 c8_i32_197
  let v221 : BitVec 32 := Scalar.addi c0_i32_198 v220
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_199 : BitVec 32 := 4#32
  let v222 : BitVec 32 := Scalar.muli v9 c4_i32_199
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v224 : BitVec 32 := Scalar.muli v8 c1_i32_200
  let v225 : BitVec 32 := Scalar.addi v223 v224
  v225.toNat
def k0_dev8 (d0 : Dev nD) : Nat :=
  let c0_i32_230 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_229 : BitVec 32 := 8#32
  let v256 : BitVec 32 := Scalar.muli v2 c8_i32_229
  let v257 : BitVec 32 := Scalar.addi c0_i32_230 v256
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_231 : BitVec 32 := 4#32
  let v258 : BitVec 32 := Scalar.muli v9 c4_i32_231
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v260 : BitVec 32 := Scalar.muli v8 c1_i32_232
  let v261 : BitVec 32 := Scalar.addi v259 v260
  v261.toNat
def k0_dev9 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v292 : BitVec 32 := Scalar.muli v2 c8_i32_261
  let v293 : BitVec 32 := Scalar.addi c0_i32_262 v292
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_263 : BitVec 32 := 4#32
  let v294 : BitVec 32 := Scalar.muli v9 c4_i32_263
  let v295 : BitVec 32 := Scalar.addi v293 v294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v296 : BitVec 32 := Scalar.muli v8 c1_i32_264
  let v297 : BitVec 32 := Scalar.addi v295 v296
  v297.toNat
def k0_dev10 (d0 : Dev nD) : Nat :=
  let c0_i32_308 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_307 : BitVec 32 := 8#32
  let v338 : BitVec 32 := Scalar.muli v2 c8_i32_307
  let v339 : BitVec 32 := Scalar.addi c0_i32_308 v338
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_309 : BitVec 32 := 4#32
  let v340 : BitVec 32 := Scalar.muli v9 c4_i32_309
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v342 : BitVec 32 := Scalar.muli v8 c1_i32_310
  let v343 : BitVec 32 := Scalar.addi v341 v342
  v343.toNat
def k0_dev11 (d0 : Dev nD) : Nat :=
  let c0_i32_353 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_352 : BitVec 32 := 8#32
  let v384 : BitVec 32 := Scalar.muli v2 c8_i32_352
  let v385 : BitVec 32 := Scalar.addi c0_i32_353 v384
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_354 : BitVec 32 := 4#32
  let v386 : BitVec 32 := Scalar.muli v9 c4_i32_354
  let v387 : BitVec 32 := Scalar.addi v385 v386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v388 : BitVec 32 := Scalar.muli v8 c1_i32_355
  let v389 : BitVec 32 := Scalar.addi v387 v388
  v389.toNat
def k0_dev12 (d0 : Dev nD) : Nat :=
  let c0_i32_398 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_397 : BitVec 32 := 8#32
  let v430 : BitVec 32 := Scalar.muli v2 c8_i32_397
  let v431 : BitVec 32 := Scalar.addi c0_i32_398 v430
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_399 : BitVec 32 := 4#32
  let v432 : BitVec 32 := Scalar.muli v9 c4_i32_399
  let v433 : BitVec 32 := Scalar.addi v431 v432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v434 : BitVec 32 := Scalar.muli v8 c1_i32_400
  let v435 : BitVec 32 := Scalar.addi v433 v434
  v435.toNat
def k0_dev13 (d0 : Dev nD) : Nat :=
  let c0_i32_443 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_442 : BitVec 32 := 8#32
  let v476 : BitVec 32 := Scalar.muli v2 c8_i32_442
  let v477 : BitVec 32 := Scalar.addi c0_i32_443 v476
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_444 : BitVec 32 := 4#32
  let v478 : BitVec 32 := Scalar.muli v9 c4_i32_444
  let v479 : BitVec 32 := Scalar.addi v477 v478
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_445 : BitVec 32 := 1#32
  let v480 : BitVec 32 := Scalar.muli v8 c1_i32_445
  let v481 : BitVec 32 := Scalar.addi v479 v480
  v481.toNat
def k0_dev14 (d0 : Dev nD) : Nat :=
  let c0_i32_488 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_487 : BitVec 32 := 8#32
  let v522 : BitVec 32 := Scalar.muli v2 c8_i32_487
  let v523 : BitVec 32 := Scalar.addi c0_i32_488 v522
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_489 : BitVec 32 := 4#32
  let v524 : BitVec 32 := Scalar.muli v9 c4_i32_489
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_490 : BitVec 32 := 1#32
  let v526 : BitVec 32 := Scalar.muli v8 c1_i32_490
  let v527 : BitVec 32 := Scalar.addi v525 v526
  v527.toNat
def k0_dev15 (d0 : Dev nD) : Nat :=
  let c0_i32_533 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_532 : BitVec 32 := 8#32
  let v568 : BitVec 32 := Scalar.muli v2 c8_i32_532
  let v569 : BitVec 32 := Scalar.addi c0_i32_533 v568
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_534 : BitVec 32 := 4#32
  let v570 : BitVec 32 := Scalar.muli v9 c4_i32_534
  let v571 : BitVec 32 := Scalar.addi v569 v570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v572 : BitVec 32 := Scalar.muli v8 c1_i32_535
  let v573 : BitVec 32 := Scalar.addi v571 v572
  v573.toNat
def k0_dev16 (d0 : Dev nD) : Nat :=
  let c0_i32_578 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_577 : BitVec 32 := 8#32
  let v614 : BitVec 32 := Scalar.muli v2 c8_i32_577
  let v615 : BitVec 32 := Scalar.addi c0_i32_578 v614
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_579 : BitVec 32 := 4#32
  let v616 : BitVec 32 := Scalar.muli v9 c4_i32_579
  let v617 : BitVec 32 := Scalar.addi v615 v616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_580 : BitVec 32 := 1#32
  let v618 : BitVec 32 := Scalar.muli v8 c1_i32_580
  let v619 : BitVec 32 := Scalar.addi v617 v618
  v619.toNat
def k0_dev17 (d0 : Dev nD) : Nat :=
  let c0_i32_618 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_617 : BitVec 32 := 8#32
  let v655 : BitVec 32 := Scalar.muli v2 c8_i32_617
  let v656 : BitVec 32 := Scalar.addi c0_i32_618 v655
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_619 : BitVec 32 := 4#32
  let v657 : BitVec 32 := Scalar.muli v9 c4_i32_619
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_620 : BitVec 32 := 1#32
  let v659 : BitVec 32 := Scalar.muli v8 c1_i32_620
  let v660 : BitVec 32 := Scalar.addi v658 v659
  v660.toNat
-- ==== Reference.lean ====
abbrev S32768x1024 : Shape := ⟨2, ![32768, 1024]⟩

abbrev nBuf : Space → Nat
  | .hbm => 2
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Chunks.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.GatherProof

open Cert.KernelIdeal Cert.KernelIdeal.Gen
open Idealize.ShloMosaic Idealize.ShloMosaic.TcCoe
open Idealize.SL Idealize.SL.Sem

variable {F : FTy → Type} [FloatOps F]

/-! ## The pieces the program moves -/

/-- Chunk `k`'s 1024 rows lie inside the argument. -/
theorem inbX (k : Fin 16) : ∀ a, (![1024 * k.val, 0] : Fin 2 → Nat) a + S1024x1024.size a ≤ S16384x1024.size a := by
  revert k; decide
/-- Slot `s` lies inside the float32 buffer. -/
theorem inbF (s : Fin 2) : ∀ a, (![s.val, 0, 0] : Fin 3 → Nat) a + S1x1024x1024.size a ≤ S2x1024x1024.size a := by
  revert s; decide
/-- Slot `s` lies inside the bfloat16 buffer. -/
theorem inbB (s : Fin 8) : ∀ a, (![s.val, 0, 0] : Fin 3 → Nat) a + S1x1024x1024.size a ≤ S8x1024x1024.size a := by
  revert s; decide
/-- Entry `s` lies inside an array of `n` semaphores. -/
theorem inbS {n : ℕ} (s : Fin n) : ∀ a, (![s.val] : Fin 1 → Nat) a + S1.size a ≤ (⟨1, ![n]⟩ : Shape).size a := by
  intro a; fin_cases a; exact s.isLt

/-- Slot `s` of the float32 staging buffer, as loads and stores address it. -/
abbrev rectF (s : Fin 2) : Rect S2x1024x1024 := Rect.unit (s := S2x1024x1024) ![s.val, 0, 0] S1x1024x1024.size (inbF s)
/-- Slot `s` of the bfloat16 staging buffer. -/
abbrev rectB (s : Fin 8) : Rect S8x1024x1024 := Rect.unit (s := S8x1024x1024) ![s.val, 0, 0] S1x1024x1024.size (inbB s)
/-- Chunk `k` of the argument. -/
abbrev rectX (k : Fin 16) : Rect S16384x1024 := Rect.unit (s := S16384x1024) ![1024 * k.val, 0] S1024x1024.size (inbX k)
/-- The rows of the result that chunk `k` of device `d`'s argument becomes. -/
abbrev rectO (d : Dev nD) (k : Fin 16) : Rect S32768x1024 :=
  Rect.unit (s := S32768x1024) (k0_off1 d (BitVec.ofNat 32 (1024 * k.val))) S1024x1024.size (k0_off1_inb d k)

/-- A bfloat16 slot is made of whole memory words. -/
theorem wordsB (s : Fin 8) : (rectB s).WholeWords (EltTy.packing .bf16) := by revert s; decide
/-- A bfloat16 slot's rows are packed as the buffer's are. -/
theorem packedB (s : Fin 8) : (rectB s).PackedRows (EltTy.packing .bf16) := by revert s; decide

abbrev xW : Memref sig .tc .hbm S16384x1024 .f32 := Memref.whole main_arg0
abbrev oW : Memref sig .tc .hbm S32768x1024 .bf16 := Memref.whole main_v1
abbrev fW : Memref sig .tc .vmem S2x1024x1024 .f32 := Memref.whole cc0_scratch0
abbrev bW : Memref sig .tc .vmem S8x1024x1024 .bf16 := Memref.whole cc0_scratch1

/-- The same pieces as transfers address them. -/
abbrev xM (k : Fin 16) : Memref sig .tc .hbm S1024x1024 .f32 := xW.slice (rectX k) (fun _ => rfl)
abbrev oM (d : Dev nD) (k : Fin 16) : Memref sig .tc .hbm S1024x1024 .bf16 := oW.slice (rectO d k) (fun _ => rfl)
abbrev fM (s : Fin 2) : Memref sig .tc .vmem S1024x1024 .f32 :=
  (fW.slice (rectF s) (fun _ => rfl)).squeeze S1024x1024 squeezes_S1x1024x1024_S1024x1024
abbrev bM (s : Fin 8) : Memref sig .tc .vmem S1024x1024 .bf16 :=
  (bW.slice (rectB s) (fun _ => rfl)).squeeze S1024x1024 squeezes_S1x1024x1024_S1024x1024

/-- Semaphore `s` of an array of `n`. -/
abbrev semAt {n : ℕ} (A : DmaSems sig (⟨1, ![n]⟩ : Shape)) (s : Fin n) : DmaSem sig :=
  ((A.slice (Rect.unit (s := (⟨1, ![n]⟩ : Shape)) ![s.val] S1.size (inbS s))).squeeze S_ squeezes_S1_S_).sem

abbrev ldS (s : Fin 2) : DmaSem sig := semAt cc0_scratch2 s
abbrev owS (s : Fin 8) : DmaSem sig := semAt cc0_scratch3 s
abbrev sendS (k : Fin 16) : DmaSem sig := semAt cc0_scratch4 k
abbrev recvS (k : Fin 16) : DmaSem sig := semAt cc0_scratch5 k
abbrev barS : Sem sig := (SemArray.scalar (sig.barrier 0 rfl) : Sems sig S_).sem

/-- The slots chunk `k` uses. -/
abbrev s2 (k : Fin 16) : Fin 2 := ⟨k.val % 2, Nat.mod_lt _ (by decide)⟩
abbrev s8 (k : Fin 16) : Fin 8 := ⟨k.val % 8, Nat.mod_lt _ (by decide)⟩

/-- The device the kernel's `device_id` words name. -/
abbrev tgt (d : Dev nD) : Dev nD := ⟨k0_dev1 d, k0_dev1_lt d⟩

/-! ## The program, a chunk at a time -/

abbrev Pg (F : FTy → Type) [FloatOps F] := Prog (TpuEff nD τ sig (Elt F) Λ₀ .tc) PUnit

/-- Start the transfer of chunk `k` of the argument into its float32 slot. -/
def pLoad (k : Fin 16) (rest : Pg F) : Pg F :=
  Prog.op (.enqueueDma (xM k) (.here (fM (s2 k))) (.dma (ldS (s2 k))) (View.wordExact_bits rfl) ((View.wordExact_bits rfl).reshape _ _) ⟨Or.inl rfl, trivial⟩) fun _ => rest
/-- Wait for it. -/
def pLoadWait (k : Fin 16) (rest : Pg F) : Pg F :=
  Prog.op (.waitDma2 (ldS (s2 k)) (xM k) (fM (s2 k)) (View.wordExact_bits rfl) ((View.wordExact_bits rfl).reshape _ _)) fun _ => rest
/-- Wait until chunk `j`'s two copies have left its bfloat16 slot. -/
def pFree (d : Dev nD) (j : Fin 16) (rest : Pg F) : Pg F :=
  Prog.op (.waitDma2 (sendS j) (oM d j) (bM (s8 j)) ((Memref.isWhole_whole _).wordExact_slice rfl _ (k0_off1_wordsbf16 d j)) (((Memref.isWhole_whole _).wordExact_slice rfl _ (wordsB _)).reshape _ _)) fun _ =>
  Prog.op (.waitDma2 (owS (s8 j)) (bM (s8 j)) (oM d j) (((Memref.isWhole_whole _).wordExact_slice rfl _ (wordsB _)).reshape _ _) ((Memref.isWhole_whole _).wordExact_slice rfl _ (k0_off1_wordsbf16 d j))) fun _ => rest
/-- Round chunk `k` into its bfloat16 slot. -/
def pCast (k : Fin 16) (rest : Pg F) : Pg F :=
  Prog.op (.load fW (rectF (s2 k)).toLoadRect (View.loadsAt_vmem h_S1x1024x1024)) fun v =>
  Prog.op (.load bW (rectB (s8 k)).toLoadRect (View.loadsAt_vmem h_S1x1024x1024)) fun _ =>
  Prog.op (.store bW (rectB (s8 k)) (k0_pay1 v) Finset.univ (View.stores_vmem h_S1x1024x1024 ((Memref.isWhole_whole _).storeExact_slice rfl _ (packedB _)) (fun _ => rfl)) (.inl rfl)) fun _ => rest
/-- Start chunk `k`'s two copies: to the neighbour's result and to the device's own. -/
def pSend (d : Dev nD) (k : Fin 16) (rest : Pg F) : Pg F :=
  Prog.op (.enqueueDma (bM (s8 k)) (.remote (Dev.tc (tgt d)) (oM d k) (.dma (sendS k))) (.dma (recvS k)) (((Memref.isWhole_whole _).wordExact_slice rfl _ (wordsB _)).reshape _ _) ((Memref.isWhole_whole _).wordExact_slice rfl _ (k0_off1_wordsbf16 d k)) ⟨⟨rfl, Or.inl rfl⟩, trivial⟩) fun _ =>
  Prog.op (.enqueueDma (bM (s8 k)) (.here (oM d k)) (.dma (owS (s8 k))) (((Memref.isWhole_whole _).wordExact_slice rfl _ (wordsB _)).reshape _ _) ((Memref.isWhole_whole _).wordExact_slice rfl _ (k0_off1_wordsbf16 d k)) ⟨Or.inl rfl, trivial⟩) fun _ => rest
/-- Wait for the neighbour's chunk `k`. -/
def pRecv (d : Dev nD) (k : Fin 16) (rest : Pg F) : Pg F :=
  Prog.op (.waitDma2 (recvS k) (bM (s8 k)) (oM d k) (((Memref.isWhole_whole _).wordExact_slice rfl _ (wordsB _)).reshape _ _) ((Memref.isWhole_whole _).wordExact_slice rfl _ (k0_off1_wordsbf16 d k))) fun _ => rest

/-- Chunk `k` from its wait to its two copies, the slot it takes over freed first where an earlier chunk had it. -/
def pChunk (d : Dev nD) (k : Fin 16) (rest : Pg F) : Pg F :=
  let body : Pg F := pLoadWait k (if h : 8 ≤ k.val then pFree d ⟨k.val - 8, by omega⟩ (pCast k (pSend d k rest)) else pCast k (pSend d k rest))
  if h : k.val + 1 < 16 then pLoad ⟨k.val + 1, h⟩ body else body

/-- Run `step` at each of a list's entries in order. -/
def pEach (step : Fin 16 → Pg F → Pg F) : List (Fin 16) → Pg F → Pg F
  | [], rest => rest
  | k :: ks, rest => step k (pEach step ks rest)

abbrev allChunks : List (Fin 16) := [0, 1, 2, 3, 4, 5, 6, 7, 8, 9, 10, 11, 12, 13, 14, 15]
abbrev lastChunks : List (Fin 16) := [8, 9, 10, 11, 12, 13, 14, 15]

/-- The kernel's program on device `d`. -/
def prog (d : Dev nD) : Pg F :=
  Prog.op (.semSignal (Dev.tc (tgt d)) barS 1) fun _ =>
  Prog.op (.semWait barS 1) fun _ =>
  pLoad 0 <| pEach (pChunk d) allChunks <| pEach (pFree d) lastChunks <| pEach (pRecv d) allChunks <| .ret ⟨⟩

set_option maxRecDepth 65536 in
set_option maxHeartbeats 4000000 in
/-- The printed kernel is that program. -/
theorem body_eq (t : Fin cfg0.N) : bodyAt0 (F := F) t = Prog.op .deviceId fun d => prog d := by
  unfold bodyAt0
  rfl

end Cert.GatherProof

end
-- ==== Proof.Contents.lean ====
module

public import proofs.«01_k».proof.Proof.Chunks
public import Idealize.ShloMosaic.Lib.ValueIdxCore
public import Idealize.ShloMosaic.Lib.ValueLayout
public import Idealize.ShloMosaic.Lib.Ring

@[expose] public section

noncomputable section

namespace Cert.GatherProof

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## Neighbours -/

/-- A device's place on the mesh's `y` axis. -/
abbrev yOf (d : Dev nD) : ℕ := d.val / 4 % 2

/-- There are two places along the middle axis. -/
theorem yOf_lt (d : Dev nD) : yOf d < 2 := Nat.mod_lt _ (by decide)

/-- The neighbour's number, as the program computes it. -/
theorem tgt_val (d : Dev nD) : (tgt d).val = (8 * (d.val / 8) + (d.val % 4) + 4) - 4 * ((d.val / 4) % 2) := k0_dev1_eq d

/-- The neighbour's neighbour is the device itself, -/
theorem tgt_tgt (d : Dev nD) : tgt (tgt d) = d := by
  apply Fin.ext
  rw [tgt_val, tgt_val]
  revert d; decide

/-- and the two stand at the two places of the axis. -/
theorem yOf_tgt (d : Dev nD) : yOf (tgt d) = 1 - yOf d := by
  unfold yOf
  rw [tgt_val]
  revert d; decide

/-- Swapping neighbours permutes the devices. -/
def swap : Dev nD ≃ Dev nD := ⟨tgt, tgt, tgt_tgt, tgt_tgt⟩

/-! ## Which elements each piece has -/

/-- Chunk `k` of the argument is its rows from `1024 k` to `1024 k + 1023`. -/
theorem mem_rectX {k : Fin 16} {i : S16384x1024.Idx} : i ∈ (rectX k).set ↔ 1024 * k.val ≤ (i 0).val ∧ (i 0).val < 1024 * k.val + 1024 := by
  rw [Rect.mem_set_unit, Fin.forall_fin_two]
  have h1 : (i 1).val < 1024 := (i 1).isLt
  exact ⟨fun h => h.1, fun h => ⟨h, Nat.zero_le _, by show (i 1).val < 0 + 1024; omega⟩⟩

/-- Chunk `k` of device `d`'s half of a result is the same rows, after those of the halves before `d`'s. -/
theorem mem_rectO {d : Dev nD} {k : Fin 16} {i : S32768x1024.Idx} :
    i ∈ (rectO d k).set ↔ 16384 * yOf d + 1024 * k.val ≤ (i 0).val ∧ (i 0).val < 16384 * yOf d + 1024 * k.val + 1024 := by
  rw [Rect.mem_set_unit, Fin.forall_fin_two, k0_off1_eq]
  have h1 : (i 1).val < 1024 := (i 1).isLt
  exact ⟨fun h => h.1, fun h => ⟨h, Nat.zero_le _, by show (i 1).val < 0 + 1024; omega⟩⟩

/-- Slot `s` of the float32 buffer is what has `s` for its first index. -/
theorem mem_rectF {s : Fin 2} {i : S2x1024x1024.Idx} : i ∈ (rectF s).set ↔ i 0 = s := by
  rw [Rect.mem_set_unit, Fin.forall_fin_succ, Fin.forall_fin_two]
  have h1 : (i 1).val < 1024 := (i 1).isLt
  have h2 : (i 2).val < 1024 := (i 2).isLt
  constructor
  · intro h
    have h0 : s.val ≤ (i 0).val ∧ (i 0).val < s.val + 1 := h.1
    exact Fin.ext (by omega)
  · rintro h
    have h0 : (i 0).val = s.val := congrArg Fin.val h
    exact ⟨⟨by show s.val ≤ (i 0).val; omega, by show (i 0).val < s.val + 1; omega⟩,
      ⟨Nat.zero_le _, by show (i 1).val < 0 + 1024; omega⟩, ⟨Nat.zero_le _, by show (i 2).val < 0 + 1024; omega⟩⟩

/-- Slot `s` of the bfloat16 buffer is what has `s` for its first index. -/
theorem mem_rectB {s : Fin 8} {i : S8x1024x1024.Idx} : i ∈ (rectB s).set ↔ i 0 = s := by
  rw [Rect.mem_set_unit, Fin.forall_fin_succ, Fin.forall_fin_two]
  have h1 : (i 1).val < 1024 := (i 1).isLt
  have h2 : (i 2).val < 1024 := (i 2).isLt
  constructor
  · intro h
    have h0 : s.val ≤ (i 0).val ∧ (i 0).val < s.val + 1 := h.1
    exact Fin.ext (by omega)
  · rintro h
    have h0 : (i 0).val = s.val := congrArg Fin.val h
    exact ⟨⟨by show s.val ≤ (i 0).val; omega, by show (i 0).val < s.val + 1; omega⟩,
      ⟨Nat.zero_le _, by show (i 1).val < 0 + 1024; omega⟩, ⟨Nat.zero_le _, by show (i 2).val < 0 + 1024; omega⟩⟩

/-- The entries that the view of an argument's chunk reaches. -/
theorem set_xM (k : Fin 16) : (xM k).view.set = (rectX k).set := View.set_slice_whole _ _
/-- The entries that the view of a result's chunk reaches. -/
theorem set_oM (d : Dev nD) (k : Fin 16) : (oM d k).view.set = (rectO d k).set := View.set_slice_whole _ _
/-- The entries that the view of a float32 slot reaches. -/
theorem set_fM (s : Fin 2) : (fM s).view.set = (rectF s).set := (View.set_reshape _ _).trans (View.set_slice_whole _ _)
/-- The entries that the view of a bfloat16 slot reaches. -/
theorem set_bM (s : Fin 8) : (bM s).view.set = (rectB s).set := (View.set_reshape _ _).trans (View.set_slice_whole _ _)

/-- The pieces of one buffer are disjoint and together the whole buffer. -/
theorem rectX_disjoint : ∀ j k : Fin 16, j ≠ k → Disjoint (rectX j).set (rectX k).set := by
  intro j k h
  rw [Finset.disjoint_left]
  intro i hj hk
  rw [mem_rectX] at hj hk
  exact h (Fin.ext (by omega))
/-- The sixteen chunks make up the argument. -/
theorem rectX_cover : Finset.univ.biUnion (fun k => (rectX k).set) = Finset.univ := by
  ext i
  simp only [Finset.mem_biUnion, Finset.mem_univ, true_and, iff_true]
  have h0 : (i 0).val < 16384 := (i 0).isLt
  exact ⟨⟨(i 0).val / 1024, by omega⟩, mem_rectX.mpr ⟨by show 1024 * ((i 0).val / 1024) ≤ _; omega, by show _ < 1024 * ((i 0).val / 1024) + 1024; omega⟩⟩
/-- The two float32 slots have nothing in common. -/
theorem rectF_disjoint : ∀ s t : Fin 2, s ≠ t → Disjoint (rectF s).set (rectF t).set := by
  intro s t h
  rw [Finset.disjoint_left]
  intro i hs ht
  rw [mem_rectF] at hs ht
  exact h (hs.symm.trans ht)
/-- The two slots make up the float32 buffer. -/
theorem rectF_cover : Finset.univ.biUnion (fun s => (rectF s).set) = Finset.univ := by
  ext i
  simp only [Finset.mem_biUnion, Finset.mem_univ, true_and, iff_true]
  exact ⟨i 0, mem_rectF.mpr rfl⟩
/-- The eight bfloat16 slots have nothing in common. -/
theorem rectB_disjoint : ∀ s t : Fin 8, s ≠ t → Disjoint (rectB s).set (rectB t).set := by
  intro s t h
  rw [Finset.disjoint_left]
  intro i hs ht
  rw [mem_rectB] at hs ht
  exact h (hs.symm.trans ht)
/-- The eight slots make up the bfloat16 buffer. -/
theorem rectB_cover : Finset.univ.biUnion (fun s => (rectB s).set) = Finset.univ := by
  ext i
  simp only [Finset.mem_biUnion, Finset.mem_univ, true_and, iff_true]
  exact ⟨i 0, mem_rectB.mpr rfl⟩

/-- The two devices whose rows a device's result has: itself and its neighbour. -/
abbrev src (c : Dev nD) : Fin 16 ⊕ Fin 16 → Finset S32768x1024.Idx
  | .inl k => (rectO c k).set
  | .inr k => (rectO (tgt c) k).set

/-- The chunks of both halves of a result have nothing in common. -/
theorem src_disjoint (c : Dev nD) : ∀ a b, a ≠ b → Disjoint (src c a) (src c b) := by
  have hy := yOf_tgt c
  have hl := yOf_lt c
  have key : ∀ (d e : Dev nD) (j k : Fin 16), (yOf d ≠ yOf e ∨ (d = e ∧ j ≠ k)) → Disjoint (rectO d j).set (rectO e k).set := by
    intro d e j k h
    rw [Finset.disjoint_left]
    intro i hj hk
    rw [mem_rectO] at hj hk
    have hj' := j.isLt
    have hk' := k.isLt
    have hd := yOf_lt d
    have he := yOf_lt e
    rcases h with h | ⟨rfl, h⟩
    · omega
    · exact h (Fin.ext (by omega))
  rintro (j | j) (k | k) h
  · exact key c c j k (.inr ⟨rfl, fun e => h (e ▸ rfl)⟩)
  · exact key c (tgt c) j k (.inl (by omega))
  · exact key (tgt c) c j k (.inl (by omega))
  · exact key (tgt c) (tgt c) j k (.inr ⟨rfl, fun e => h (e ▸ rfl)⟩)

/-- The device whose argument a row of device `c`'s result comes from. -/
def owner (c : Dev nD) (i : S32768x1024.Idx) : Dev nD := if (i 0).val / 16384 = yOf c then c else tgt c

/-- The chunks of both halves make up a result. -/
theorem src_cover (c : Dev nD) : Finset.univ.biUnion (src c) = Finset.univ := by
  ext i
  simp only [Finset.mem_biUnion, Finset.mem_univ, true_and, iff_true]
  have hy := yOf_tgt c
  have hl := yOf_lt c
  have h0 : (i 0).val < 32768 := (i 0).isLt
  by_cases h : (i 0).val / 16384 = yOf c
  · exact ⟨.inl ⟨(i 0).val % 16384 / 1024, by omega⟩, mem_rectO.mpr ⟨by dsimp only; omega, by dsimp only; omega⟩⟩
  · exact ⟨.inr ⟨(i 0).val % 16384 / 1024, by omega⟩, mem_rectO.mpr ⟨by dsimp only; omega, by dsimp only; omega⟩⟩

/-- The rows of a device's own half come from the device itself. -/
theorem owner_self {c : Dev nD} {k : Fin 16} {i : S32768x1024.Idx} (h : i ∈ (rectO c k).set) : owner c i = c := by
  rw [mem_rectO] at h
  have hk := k.isLt
  exact if_pos (by omega)
/-- The rows of the neighbour's half come from the neighbour. -/
theorem owner_tgt {c : Dev nD} {k : Fin 16} {i : S32768x1024.Idx} (h : i ∈ (rectO (tgt c) k).set) : owner c i = tgt c := by
  rw [mem_rectO] at h
  have hk := k.isLt
  have hy := yOf_tgt c
  have hl := yOf_lt c
  exact if_neg (by omega)

/-! ## What each buffer holds -/

/-- An argument's contents, a result's. -/
abbrev XTy (F : FTy → Type) : Type := S16384x1024.Idx → Elt F .f32
abbrev OTy (F : FTy → Type) : Type := S32768x1024.Idx → Elt F .bf16

/-- A float32 value rounded to bfloat16. -/
def tr (x : Elt F .f32) : Elt F .bf16 := FloatOps.truncf (F := F) .bf16 bitsLt_bf16_f32 x

/-- Row `r` of chunk `k`, as a row of the argument. -/
abbrev rowOf (k : Fin 16) (r : Fin 1024) : Fin 16384 := ⟨1024 * k.val + r.val, by have := k.isLt; have := r.isLt; omega⟩
/-- A result's row, as a row of its owner's argument. -/
abbrev rowIn (r : Fin 32768) : Fin 16384 := ⟨r.val % 16384, Nat.mod_lt _ (by decide)⟩

/-- The float32 buffer, every slot holding chunk `k`; -/
def fVal (X : XTy F) (k : Fin 16) : S2x1024x1024.Idx → Elt F .f32 := fun i => X (ix2 (rowOf k (i 1)) (i 2))
/-- the bfloat16 buffer, every slot holding chunk `k` rounded; -/
def bVal (X : XTy F) (k : Fin 16) : S8x1024x1024.Idx → Elt F .bf16 := fun i => tr (X (ix2 (rowOf k (i 1)) (i 2)))
/-- device `c`'s result: every row its owner's, rounded. -/
def res (X : Dev nD → XTy F) (c : Dev nD) : OTy F := fun i => tr (X (owner c i) (ix2 (rowIn (i 0)) (i 1)))

/-- Where an entry of an argument's chunk lies in the argument. -/
theorem emb_xM (k : Fin 16) (j : S1024x1024.Idx) : (xM k).view.emb j = ix2 (rowOf k (j 0)) (j 1) := by
  funext a
  match a with
  | ⟨0, _⟩ => exact Fin.ext (by show 1024 * k.val + 1 * (j 0).val = 1024 * k.val + (j 0).val; omega)
  | ⟨1, _⟩ => exact Fin.ext (by show 0 + 1 * (j 1).val = (j 1).val; omega)

/-- Where an entry of a float32 slot lies in the buffer. -/
theorem emb_fM (s : Fin 2) (j : S1024x1024.Idx) : (fM s).view.emb j = ix3 s (j 0) (j 1) := by
  show (rectF s).emb (Shape.reshapeEquiv _ j) = _
  rw [Shape.reshapeEquiv_cons_one]
  funext a
  match a with
  | ⟨0, _⟩ => exact Fin.ext (by show s.val + 1 * 0 = s.val; omega)
  | ⟨1, _⟩ => exact Fin.ext (by show 0 + 1 * (j 0).val = (j 0).val; omega)
  | ⟨2, _⟩ => exact Fin.ext (by show 0 + 1 * (j 1).val = (j 1).val; omega)

/-- Where an entry of a bfloat16 slot lies in the buffer. -/
theorem emb_bM (s : Fin 8) (j : S1024x1024.Idx) : (bM s).view.emb j = ix3 s (j 0) (j 1) := by
  show (rectB s).emb (Shape.reshapeEquiv _ j) = _
  rw [Shape.reshapeEquiv_cons_one]
  funext a
  match a with
  | ⟨0, _⟩ => exact Fin.ext (by show s.val + 1 * 0 = s.val; omega)
  | ⟨1, _⟩ => exact Fin.ext (by show 0 + 1 * (j 0).val = (j 0).val; omega)
  | ⟨2, _⟩ => exact Fin.ext (by show 0 + 1 * (j 1).val = (j 1).val; omega)

/-- The load of chunk `k` leaves it in its slot. -/
theorem load_lands (X : XTy F) (k : Fin 16) (f : S2x1024x1024.Idx → Elt F .f32) :
    ∀ i ∈ (fM (s2 k)).view.set, (fM (s2 k)).view.write (Elt F) f ((xM k).view.read (Elt F) X) Finset.univ i = fVal X k i := by
  intro i hi
  obtain ⟨j, -, rfl⟩ := Finset.mem_map.mp hi
  rw [View.write_emb_of_mem _ _ (Finset.mem_univ j)]
  show X ((xM k).view.emb j) = fVal X k ((fM (s2 k)).view.emb j)
  rw [emb_xM, emb_fM]
  rfl

/-- Rounding chunk `k`'s slot leaves the rounded chunk in its bfloat16 slot. -/
theorem cast_lands (X : XTy F) (k : Fin 16) (g : S8x1024x1024.Idx → Elt F .bf16) :
    ∀ i ∈ (bM (s8 k)).view.set, (bW.access (rectB (s8 k))).write (Elt F) g (k0_pay1 (fW.view.readAt (Elt F) (rectF (s2 k)).toLoadRect (fVal X k))) Finset.univ i = bVal X k i := by
  intro i hi
  rw [set_bM, ← Rect.map_emb_univ] at hi
  obtain ⟨j, -, rfl⟩ := Finset.mem_map.mp hi
  have hw := View.write_emb_of_mem (Val := Elt F) (v := bW.access (rectB (s8 k))) g (k0_pay1 (fW.view.readAt (Elt F) (rectF (s2 k)).toLoadRect (fVal X k))) (Finset.mem_univ j)
  refine hw.trans ?_
  show tr (fVal X k ((rectF (s2 k)).emb (Shape.reshapeEquiv _ (Shape.reshapeEquiv _ j)))) = bVal X k ((rectB (s8 k)).emb j)
  rw [Shape.reshapeEquiv_reshapeEquiv, Shape.reshapeEquiv_self]
  rfl

/-- A copy of chunk `k` of device `d` to the result of a device that `d` is a source of leaves that result's rows there. -/
theorem copy_lands (X : Dev nD → XTy F) (c d : Dev nD) (k : Fin 16) (h : ∀ i ∈ (rectO d k).set, owner c i = d) (f : OTy F) :
    ∀ i ∈ (oM d k).view.set, (oM d k).view.write (Elt F) f ((bM (s8 k)).view.read (Elt F) (bVal (X d) k)) Finset.univ i = res X c i := by
  intro i hi
  have hi' := hi
  rw [set_oM] at hi'
  have ho := h i hi'
  have hm := mem_rectO.mp hi'
  obtain ⟨j, -, rfl⟩ := Finset.mem_map.mp hi
  rw [View.write_emb_of_mem _ _ (Finset.mem_univ j)]
  show bVal (X d) k ((bM (s8 k)).view.emb j) = tr (X (owner c ((oM d k).view.emb j)) _)
  rw [ho, emb_bM]
  have h0 : (((oM d k).view.emb j) 0).val = 16384 * yOf d + 1024 * k.val + (j 0).val := by
    show k0_off1 d (BitVec.ofNat 32 (1024 * k.val)) 0 + 1 * (j 0).val = _
    rw [k0_off1_eq]
    show 16384 * yOf d + 1024 * k.val + 1 * (j 0).val = _
    omega
  have h1 : (((oM d k).view.emb j) 1).val = (j 1).val := by
    show k0_off1 d (BitVec.ofNat 32 (1024 * k.val)) 1 + 1 * (j 1).val = _
    rw [k0_off1_eq]
    show 0 + 1 * (j 1).val = _
    omega
  refine congrArg (fun i => tr (X d i)) ?_
  have hk := k.isLt
  have hj : (j 0).val < 1024 := (j 0).isLt
  funext a
  match a with
  | ⟨0, _⟩ => exact Fin.ext (by show 1024 * k.val + (j 0).val = (((oM d k).view.emb j) 0).val % 16384; omega)
  | ⟨1, _⟩ => exact Fin.ext h1.symm

end Cert.GatherProof

end
-- ==== Proof.Protocol.lean ====
module

public import proofs.«01_k».proof.Proof.Contents

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's own part, the shared cells' rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER (F := F)).LandsIn (upEmb : UEmb _ 𝕄) := by unfold ER; infer_instance

abbrev 𝒱₀ : Variants := Variants.none

/-! ## The pieces held -/

/-- Chunk `k` of the argument of device `c`, holding `X`. -/
abbrev xP (X : XTy F) (c : Dev nD) (k : Fin 16) : sProp 𝕄 :=
  (xM k).view.loc (c : Thread nD τ) ↦[(xM k).view.set]{fullShare} X
/-- Slot `s` of its float32 buffer. -/
abbrev fP (c : Dev nD) (s : Fin 2) (f : S2x1024x1024.Idx → Elt F .f32) : sProp 𝕄 :=
  (fM s).view.loc (c : Thread nD τ) ↦[(fM s).view.set]{fullShare} f
/-- A share of slot `s` of its bfloat16 buffer. -/
abbrev bP (c : Dev nD) (s : Fin 8) (q : PosShare TreeShare) (f : S8x1024x1024.Idx → Elt F .bf16) : sProp 𝕄 :=
  (bM s).view.loc (c : Thread nD τ) ↦[(bM s).view.set]{q} f
/-- The rows of device `c`'s result that chunk `k` of device `d` becomes. -/
abbrev oP (c d : Dev nD) (k : Fin 16) (f : OTy F) : sProp 𝕄 :=
  (oM d k).view.loc (c : Thread nD τ) ↦[(oM d k).view.set]{fullShare} f

/-! ## The shared cells -/

abbrev barCell (c : Dev nD) : GSem nD τ sig := ((c : Thread nD τ), .reg barS)
abbrev recvCell (c : Dev nD) (k : Fin 16) : GSem nD τ sig := ((c : Thread nD τ), .dma (recvS k))

/-- What a chunk's transfer counts: into a float32 slot, between a bfloat16 slot and a result. -/
abbrev NF : ℕ := (fM 0).view.dmaCredit
abbrev NB : ℕ := (bM 0).view.dmaCredit
/-- A float32 chunk's transfer counts for more than nothing. -/
theorem NF_pos : 0 < NF := View.dmaCredit_pos _ (by decide)
/-- A bfloat16 chunk's transfer counts for more than nothing. -/
theorem NB_pos : 0 < NB := View.dmaCredit_pos _ (by decide)

/-- The load semaphores are numbered from 0. -/
theorem ldS_val (s : Fin 2) : (ldS s).val = s.val := by revert s; decide
/-- Those of the copies to the own result are numbered from 2. -/
theorem owS_val (s : Fin 8) : (owS s).val = 2 + s.val := by revert s; decide
/-- The send semaphores are numbered from 10. -/
theorem sendS_val (k : Fin 16) : (sendS k).val = 10 + k.val := by revert k; decide
/-- The receive semaphores are numbered from 26. -/
theorem recvS_val (k : Fin 16) : (recvS k).val = 26 + k.val := by revert k; decide

/-- Which shared cell a semaphore is: the barrier, the arrival of a chunk, or none. -/
def kind : SemLoc sig → Option (Option (Fin 16))
  | .reg s => if s = barS then some none else none
  | .dma q => if h : 26 ≤ q.val ∧ q.val < 42 then some (some ⟨q.val - 26, by omega⟩) else none

/-- The barrier's semaphore is a shared one, without a chunk. -/
theorem kind_bar : kind (.reg barS) = some none := by dsimp only [kind]; exact if_pos rfl
/-- Receive semaphore `k` is a shared one, of chunk `k`. -/
theorem kind_recv (k : Fin 16) : kind (.dma (recvS k)) = some (some k) := by
  have h := recvS_val k
  have hk := k.isLt
  dsimp only [kind]
  rw [dif_pos (by omega)]
  exact congrArg (some ∘ some) (Fin.ext (by dsimp only; omega))
/-- Every copy semaphore below the receives is a device's own. -/
theorem kind_low (q : DmaSem sig) (h : q.val < 26) : kind (.dma q) = none := by dsimp only [kind]; exact dif_neg (by omega)

/-- The cell behind each shared semaphore of a device. -/
abbrev csem : Option (Fin 16) → SemLoc sig
  | none => .reg barS
  | some k => .dma (recvS k)
/-- `csem` names the shared semaphore of each kind. -/
theorem kind_csem (o : Option (Fin 16)) : kind (csem o) = some o := by
  cases o
  · exact kind_bar
  · exact kind_recv _
abbrev kcell (co : Dev nD × Option (Fin 16)) : GSem nD τ sig := ((co.1 : Thread nD τ), csem co.2)

/-- What a device is handed by its neighbour's signal: the neighbour's rows its own chunks become. -/
def barPay (c : Dev nD) : sProp 𝕄 := bigSep Finset.univ fun k : Fin 16 => iprop(∃ f, oP (F := F) (tgt c) c k f)
/-- What the arrival of chunk `k` hands it: its own rows that the neighbour's chunk became. -/
def recvPay (X : Dev nD → XTy F) (c : Dev nD) (k : Fin 16) : sProp 𝕄 := oP c (tgt c) k (res X c)

/-- One round: each shared cell has one duty, of one unit at a barrier and of a chunk's count at an arrival. -/
def rd (X : Dev nD → XTy F) : Rounds.Schedule (GSem nD τ sig) Bool 𝕄 where
  duties g r := if r = 0 ∧ g.1.2 = .tc ∧ (kind g.2).isSome then {false} else ∅
  unitless _ := False
  amount g _ _ := match kind g.2 with
    | some (some _) => NB
    | _ => 1
  payload g _ _ := match kind g.2 with
    | some none => barPay g.1.1
    | some (some k) => recvPay X g.1.1 k
    | none => iprop(emp)
  amount_pos g _ _ _ := by split; · exact NB_pos
                           exact Nat.one_pos

instance rd_payload_storable (X : Dev nD → XTy F) (g : GSem nD τ sig) (r : ℕ) (d : Bool) :
    BI.Storable (upEmb : UEmb _ 𝕄) ((rd X).payload g r d) := by
  dsimp only [rd]
  unfold barPay recvPay
  split <;> infer_instance

section Sched
variable (X : Dev nD → XTy F) (c : Dev nD)

omit [FloatOps F] in
/-- What `csem` names is shared. -/
theorem isSome_csem (o : Option (Fin 16)) : (kind (csem o)).isSome := by rw [kind_csem]; rfl

/-- Each shared cell is to be credited once. -/
theorem duties_cell (o : Option (Fin 16)) : (rd X).duties (kcell (c, o)) 0 = {false} := by
  dsimp only [rd]; exact if_pos ⟨rfl, rfl, isSome_csem o⟩
/-- After that one round there is nothing more to credit. -/
theorem duties_later (g : GSem nD τ sig) : ∀ r, 1 ≤ r → (rd X).duties g r = ∅ :=
  fun r hr => by dsimp only [rd]; exact if_neg fun h => by omega
/-- The barrier is credited by one. -/
theorem amount_bar (d : Bool) : (rd X).amount (barCell c) 0 d = 1 := by dsimp only [rd]; rw [kind_bar]
/-- A receive is credited by a chunk's transfer. -/
theorem amount_recv (k : Fin 16) (d : Bool) : (rd X).amount (recvCell c k) 0 d = NB := by dsimp only [rd]; rw [kind_recv]
/-- The barrier's signal hands over the half of the neighbour's result that the device will write. -/
theorem payload_bar (d : Bool) : (rd X).payload (barCell c) 0 d = barPay c := by dsimp only [rd]; rw [kind_bar]
/-- A receive hands over the chunk that has landed. -/
theorem payload_recv (k : Fin 16) (d : Bool) : (rd X).payload (recvCell c k) 0 d = recvPay X c k := by dsimp only [rd]; rw [kind_recv]
/-- The barrier's wait is for one. -/
theorem expect_bar : (rd X).expect (barCell c) 0 = 1 := by
  unfold Schedule.expect Schedule.amountOf; rw [duties_cell X c none, Finset.sum_singleton, amount_bar]
/-- A receive's wait is for a chunk's transfer. -/
theorem expect_recv (k : Fin 16) : (rd X).expect (recvCell c k) 0 = NB := by
  unfold Schedule.expect Schedule.amountOf; rw [duties_cell X c (some k), Finset.sum_singleton, amount_recv]
/-- All that the barrier's wait yields is its signal's payload. -/
theorem rest_bar : bigSep ((rd X).duties (barCell c) 0 \ ∅) (fun d => (rd X).payload (barCell c) 0 d) = barPay c := by
  rw [Finset.sdiff_empty, duties_cell X c none, bigSep_singleton, payload_bar]
/-- All that a receive's wait yields is its landing's payload. -/
theorem rest_recv (k : Fin 16) : bigSep ((rd X).duties (recvCell c k) 0 \ ∅) (fun d => (rd X).payload (recvCell c k) 0 d) = recvPay X c k := by
  rw [Finset.sdiff_empty, duties_cell X c (some k), bigSep_singleton, payload_recv]

end Sched

/-! ## What a device owes, and the order of waits -/

/-- The arrivals device `c` still owes its neighbour when its chunks from `k` on are unsent. -/
def owe (c : Dev nD) (k : ℕ) : CellTallies nD τ sig Unit :=
  ∑ j ∈ Finset.univ.filter (fun j : Fin 16 => k ≤ j.val), tallyAt (recvCell (tgt c) j) () NB

/-- Sending chunk `k` pays the one debt in which `k` and `k + 1` chunks sent differ. -/
theorem owe_step (c : Dev nD) (k : Fin 16) : owe c k.val = owe c (k.val + 1) + tallyAt (recvCell (tgt c) k) () NB := by
  unfold owe
  have h : Finset.univ.filter (fun j : Fin 16 => k.val ≤ j.val) = insert k (Finset.univ.filter fun j : Fin 16 => k.val + 1 ≤ j.val) := by
    ext j
    simp only [Finset.mem_filter, Finset.mem_univ, true_and, Finset.mem_insert, Fin.ext_iff]
    omega
  rw [h, Finset.sum_insert (by simp), add_comm]

/-- With all sixteen chunks sent nothing is owed. -/
theorem owe_end (c : Dev nD) : owe c 16 = 0 := by
  unfold owe
  rw [Finset.filter_false_of_mem (fun j _ => by have := j.isLt; omega), Finset.sum_empty]

/-- At launch it owes the neighbour's barrier a unit besides. -/
def owe₀ (c : Dev nD) : CellTallies nD τ sig Unit := owe c 0 + tallyAt (barCell (tgt c)) () 1

/-- What a device owes to a cell, spelled out. -/
theorem owe_apply (c : Dev nD) (k : ℕ) (g : GSem nD τ sig) (u : Unit) :
    owe c k g u = ∑ j ∈ Finset.univ.filter (fun j : Fin 16 => k ≤ j.val), tallyAt (recvCell (tgt c) j) () NB g u := by
  unfold owe
  rw [Finset.sum_apply, Finsupp.finset_sum_apply]

/-- What a device still owes, it owes to the neighbour's receives. -/
theorem owe_pos {c : Dev nD} {k : ℕ} {g : GSem nD τ sig} {u : Unit} (h : 0 < owe c k g u) : ∃ j, g = recvCell (tgt c) j := by
  rw [owe_apply] at h
  by_contra hn
  rw [Finset.sum_eq_zero (fun j _ => by rw [tallyAt_apply, if_neg (fun h' => hn ⟨j, h'.1⟩)])] at h
  exact Nat.lt_irrefl 0 h

def L (g : GSem nD τ sig) : Finset Unit := if g.1.2 = .tc then {()} else ∅
/-- Arrivals after barriers after the local transfers. -/
def lv (g : GSem nD τ sig) (_ : Unit) : ℕ := match kind g.2 with
  | none => 0
  | some none => 1
  | some (some _) => 2

/-- No cell of another kind of core has a level. -/
theorem L_of_ne (g : GSem nD τ sig) (h : g.1.2 ≠ .tc) : L g = ∅ := if_neg h
/-- Each cell of a device's core has one level. -/
theorem L_tc (c : Dev nD) (sm : SemLoc sig) : L ((c : Thread nD τ), sm) = {()} := if_pos rfl
/-- The receives are at level 2. -/
theorem lv_recv (c : Dev nD) (k : Fin 16) : lv (recvCell c k) () = 2 := by unfold lv; rw [kind_recv]
/-- The barrier is at level 1. -/
theorem lv_bar (c : Dev nD) : lv (barCell c) () = 1 := by unfold lv; rw [kind_bar]
/-- A device's own semaphores are at level 0. -/
theorem lv_low (c : Dev nD) (q : DmaSem sig) (h : q.val < 26) : lv ((c : Thread nD τ), .dma q) () = 0 := by unfold lv; rw [kind_low q h]

/-- Owing arrivals only, a device may wait at its barrier and for its local transfers. -/
theorem mayWait (c : Dev nD) (sm : SemLoc sig) (h : lv ((c : Thread nD τ), sm) () ≤ 1) (k : ℕ) :
    (levAts L lv : sProp 𝕄) ⊢ MayWait (c : Thread nD τ) sm () (owe c k) :=
  MayOwe.of_cut (L := L) (lev := lv) 1 (fun p hp => by rw [Finset.mem_singleton.mp hp, L_tc]; exact Finset.mem_singleton_self _)
    (fun g u hg => by obtain ⟨j, rfl⟩ := owe_pos hg; rw [L_tc]; exact Finset.mem_singleton_self _)
    (fun p hp => by rw [Finset.mem_singleton.mp hp]; exact h)
    (fun g u hg => by obtain ⟨j, rfl⟩ := owe_pos hg; rw [lv_recv]; decide)

end Cert.GatherProof

end
-- ==== Proof.Steps.lean ====
module

public import proofs.«01_k».proof.Proof.Protocol
public import Idealize.ShloMosaic.Lib.Transfers

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- A device's program, run from here. -/
abbrev wpc (c : Dev nD) (p : Pg F) (Q : PUnit → sProp 𝕄) : sProp 𝕄 :=
  wp frame (wpE (defs₀ (F := F)) 𝒱₀ (c : Thread nD τ) none) Set.univ p Q

/-- A device's own semaphore at zero. -/
abbrev zero (c : Dev nD) (q : DmaSem sig) : sProp 𝕄 := semVal ((c : Thread nD τ), .dma q) 0

/-! ## What is under way -/

/-- A float32 slot at rest; a bfloat16 slot at rest, with the semaphore of its copies to the own result. -/
def fFree (c : Dev nD) (s : Fin 2) : sProp 𝕄 := iprop((∃ f, fP c s f) ∗ zero c (ldS s))
def bFree (c : Dev nD) (s : Fin 8) : sProp 𝕄 := iprop((∃ f, bP c s fullShare f) ∗ zero c (owS s))

/-- The transfer of chunk `k` of the argument into its float32 slot, started. -/
def loading (X : Dev nD → XTy F) (c : Dev nD) (k : Fin 16) : sProp 𝕄 :=
  Flight EC (c : Thread nD τ) (.dma (ldS (s2 k))) () NF iprop(fP c (s2 k) (fVal (X c) k) ∗ xP (X c) c k)
/-- The copy of the rounded chunk to the neighbour, started; to the device's own result, started. -/
def sending (X : Dev nD → XTy F) (c : Dev nD) (k : Fin 16) : sProp 𝕄 :=
  Flight EC (c : Thread nD τ) (.dma (sendS k)) () NB (bP c (s8 k) fullShare.left (bVal (X c) k))
def storing (X : Dev nD → XTy F) (c : Dev nD) (k : Fin 16) : sProp 𝕄 :=
  Flight EC (c : Thread nD τ) (.dma (owS (s8 k))) () NB iprop(oP c c k (res X c) ∗ bP c (s8 k) fullShare.right (bVal (X c) k))

/-! ## One piece of the program at a time -/

variable (X : Dev nD → XTy F) (c : Dev nD) (k : Fin 16) (rest : Pg F) (Q : PUnit.{1} → sProp (MT nD τ sig Unit (Elt F) ℕ UU ℕ))

/-- Starting a load. -/
theorem load_step : iprop(xP (X c) c k ∗ fFree c (s2 k) ∗ (loading X c k -∗ wpc c rest Q)) ⊢ wpc c (pLoad k rest) Q := by
  unfold fFree pLoad
  iintro ⟨Hx, ⟨⟨%f, Hf⟩, Hz⟩, Hk⟩
  iapply (wp_dmaLocal EC 𝒱₀ (c : Thread nD τ) none (src := xM k) (dst := fM (s2 k)) () NF rfl NF_pos (subset_refl _)) $$ [Hx Hf Hz]
  · isplitl [Hx]; · iexact Hx
    isplitl [Hf] <;> iassumption
  iintro Hfl
  iapply Hk
  unfold loading
  iapply (Flight_mono EC (c : Thread nD τ) (sep_mono_left (Entails.of_eq (pointsTo_congr (load_lands (X c) k f))))) $$ Hfl

/-- Waiting for it. -/
theorem loadWait_step (n : ℕ) (W : Waits sig Unit) :
    iprop(levAts L lv ∗ loading X c k ∗ owes (c : Thread nD τ) (owe c n) W
        ∗ ((fP c (s2 k) (fVal (X c) k) ∗ xP (X c) c k ∗ zero c (ldS (s2 k)) ∗ ∃ W, owes (c : Thread nD τ) (owe c n) W) -∗ wpc c rest Q))
      ⊢ wpc c (pLoadWait k rest) Q := by
  unfold pLoadWait loading
  iintro ⟨#Hlev, Hfl, HO, Hk⟩
  iapply (wp_waitLocalO EC 𝒱₀ (c : Thread nD τ) none (srcw := xM k) (dstw := fM (s2 k)) () rfl) $$ [Hfl HO]
  · isplitl [Hfl]; · iexact Hfl
    isplitl [HO]; · iexact HO
    iapply (mayWait (F := F) c (.dma (ldS (s2 k))) (by rw [lv_low c _ (by have := ldS_val (s2 k); have := (s2 k).isLt; omega)]; decide) n); iexact Hlev
  iintro ⟨⟨Hf, Hx⟩, Hz, HO⟩
  iapply Hk
  isplitl [Hf]; · iexact Hf
  isplitl [Hx]; · iexact Hx
  isplitl [Hz]; · iexact Hz
  iexists _; iexact HO

/-- Waiting until chunk `j`'s two copies have left its slot. -/
theorem free_step (j : Fin 16) (n : ℕ) (W : Waits sig Unit) :
    iprop(levAts L lv ∗ sending X c j ∗ storing X c j ∗ owes (c : Thread nD τ) (owe c n) W
        ∗ ((oP c c j (res X c) ∗ zero c (sendS j) ∗ bFree c (s8 j) ∗ ∃ W, owes (c : Thread nD τ) (owe c n) W) -∗ wpc c rest Q))
      ⊢ wpc c (pFree c j rest) Q := by
  unfold pFree sending storing
  iintro ⟨#Hlev, Hs, Ho, HO, Hk⟩
  iapply (wp_waitLocalO EC 𝒱₀ (c : Thread nD τ) none (srcw := oM c j) (dstw := bM (s8 j)) () rfl) $$ [Hs HO]
  · isplitl [Hs]; · iexact Hs
    isplitl [HO]; · iexact HO
    iapply (mayWait (F := F) c (.dma (sendS j)) (by rw [lv_low c _ (by have := sendS_val j; have := j.isLt; omega)]; decide) n); iexact Hlev
  iintro ⟨Hb1, Hz1, HO⟩
  iapply (wp_waitLocalO EC 𝒱₀ (c : Thread nD τ) none (srcw := bM (s8 j)) (dstw := oM c j) () rfl) $$ [Ho HO]
  · isplitl [Ho]; · iexact Ho
    isplitl [HO]; · iexact HO
    iapply (mayWait (F := F) c (.dma (owS (s8 j))) (by rw [lv_low c _ (by have := owS_val (s8 j); have := (s8 j).isLt; omega)]; decide) n); iexact Hlev
  iintro ⟨⟨Hr, Hb2⟩, Hz2, HO⟩
  iapply Hk
  isplitl [Hr]; · iexact Hr
  isplitl [Hz1]; · iexact Hz1
  isplitl [Hb1 Hb2 Hz2]
  · unfold bFree
    isplitl [Hb1 Hb2]
    · iexists (bVal (X c) j)
      iapply (pointsTo_share (PosShare.mem_left_op_right fullShare)).2
      isplitl [Hb1] <;> iassumption
    iexact Hz2
  iexists _; iexact HO

/-- Rounding a chunk into its slot. -/
theorem cast_step (f : S8x1024x1024.Idx → Elt F .bf16) :
    iprop(fP c (s2 k) (fVal (X c) k) ∗ bP c (s8 k) fullShare f
        ∗ ((fP c (s2 k) (fVal (X c) k) ∗ bP c (s8 k) fullShare (bVal (X c) k)) -∗ wpc c rest Q))
      ⊢ wpc c (pCast k rest) Q := by
  unfold pCast
  iintro ⟨Hf, Hb, Hk⟩
  iapply (wp_load_rect 𝒱₀ (c : Thread nD τ) none Set.univ (m := fW) (r := rectF (s2 k)) (by rw [set_fM]; exact (View.set_slice_whole _ _).subset)) $$ Hf; iintro Hf
  iapply (wp_load_rect 𝒱₀ (c : Thread nD τ) none Set.univ (m := bW) (r := rectB (s8 k)) (by rw [set_bM]; exact (View.set_slice_whole _ _).subset)) $$ Hb; iintro Hb
  iapply (wp_store 𝒱₀ (c : Thread nD τ) none Set.univ (m := bW) (r := rectB (s8 k)) (Mk := Finset.univ) (by rw [set_bM]; exact (View.set_slice_whole _ _).subset)) $$ Hb; iintro Hb
  iapply Hk
  isplitl [Hf]; · iexact Hf
  iapply (Entails.of_eq (pointsTo_congr (cast_lands (X c) k f))) $$ Hb

/-- A device's chunk as the neighbour is to find it. -/
theorem recvPay_tgt : recvPay X (tgt c) k = oP (tgt c) c k (res X (tgt c)) := by
  unfold recvPay; rw [tgt_tgt]

/-- A copy landed at the neighbour makes what the neighbour's arrival hands over. -/
theorem arrives (f : OTy F) :
    ((oM c k).view.loc (Dev.tc (tgt c) : Thread nD τ) ↦[(oM c k).view.set]{fullShare}
        ((oM c k).view.write (Elt F) f ((bM (s8 k)).view.read (Elt F) (bVal (X c) k)) Finset.univ) : sProp 𝕄)
      ⊢ (rd X).payload (recvCell (tgt c) k) 0 false := by
  rw [payload_recv, recvPay_tgt]
  exact Entails.of_eq (pointsTo_congr (copy_lands X (tgt c) c k (fun i hi => by
    have h := owner_tgt (c := tgt c) (k := k) (i := i) (by rw [tgt_tgt]; exact hi)
    rwa [tgt_tgt] at h) f))

/-- Starting a chunk's two copies: half of the slot is lent to each, and the neighbour's arrival is paid. -/
theorem send_step (κ : ℕ) (W : Waits sig Unit) :
    iprop((cellInv ER (rd X) κ (recvCell (tgt c) k) ∗ reached ER (recvCell (tgt c) k) 0) ∗ dutyTok ER (recvCell (tgt c) k) 0 false
        ∗ bP c (s8 k) fullShare (bVal (X c) k) ∗ (∃ f, oP (tgt c) c k f) ∗ (∃ f, oP c c k f) ∗ zero c (sendS k) ∗ zero c (owS (s8 k))
        ∗ owes (c : Thread nD τ) (owe c k.val) W
        ∗ ((sending X c k ∗ storing X c k ∗ ∃ W, owes (c : Thread nD τ) (owe c (k.val + 1)) W) -∗ wpc c rest Q))
      ⊢ wpc c (pSend c k rest) Q := by
  unfold pSend
  iintro ⟨⟨#HI, #HR⟩, Htok, Hb, ⟨%f1, Hn⟩, ⟨%f2, Ho⟩, Hz1, Hz2, HO, Hk⟩
  ihave Hb' := (pointsTo_share (PosShare.mem_left_op_right fullShare)).1 $$ Hb
  icases Hb' with ⟨Hb1, Hb2⟩
  imod (flight_alloc EC NB_pos (bP c (s8 k) fullShare.left (bVal (X c) k)) (g := ((c : Thread nD τ), .dma (sendS k)))) $$ Hz1 with ⟨%γ, %δ, %ι, #Hinv, Hγ, Hδ⟩
  iapply (wp_enqueueDma_remote_pointsTo 𝒱₀ (c : Thread nD τ) none Set.univ (c' := Dev.tc (tgt c)) (src := bM (s8 k)) (dst := oM c k) () () (owe c (k.val + 1)) NB rfl (owe_step c k)) $$ [Hb1 Hn HO] [Hγ] [Htok]
  · isplitl [Hb1]; · iexact Hb1
    isplitl [Hn]; · iexact Hn
    iexact HO
  · iapply (flight_creditUpdate EC (δ := δ))
    isplitr; · iexact Hinv
    iexact Hγ
  · iapply ((land_credit ER (rd X) (κ := κ) (g := recvCell (tgt c) k) (r := 0) (d := false) (by rw [duties_cell X (tgt c) (some k)]; exact Finset.mem_singleton_self _)
      (arrives X c k f1)).trans (Entails.of_eq (by rw [amount_recv])))
    isplitr; · iexact HI
    isplitl [Htok]; · iexact Htok
    iexact HR
  iintro ⟨Hc, HO⟩
  iapply (wp_dmaLocal EC 𝒱₀ (c : Thread nD τ) none (src := bM (s8 k)) (dst := oM c k) () NB rfl NB_pos (subset_refl _)) $$ [Hb2 Ho Hz2]
  · isplitl [Hb2]; · iexact Hb2
    isplitl [Ho] <;> iassumption
  iintro Hfl
  iapply Hk
  isplitl [Hδ Hc]
  · unfold sending
    iapply (flight_intro EC (c : Thread nD τ) (κ := ι))
    isplitr; · iexact Hinv
    isplitl [Hδ] <;> iassumption
  isplitl [Hfl]
  · unfold storing
    iapply (Flight_mono EC (c : Thread nD τ) (sep_mono_left (Entails.of_eq (pointsTo_congr (copy_lands X c c k (fun i hi => owner_self hi) f2))))) $$ Hfl
  iexists _; iexact HO

/-- Waiting for the neighbour's chunk: its rows of the result, and the arrival's semaphore at zero. -/
theorem recv_step (κ : ℕ) (W : Waits sig Unit) :
    iprop(cellInv ER (rd X) κ (recvCell c k) ∗ cred (tallyAt (recvCell c k) () NB) ∗ atPos ER (recvCell c k) 0 ∅ 0
        ∗ owes (c : Thread nD τ) 0 W
        ∗ ((oP c (tgt c) k (res X c) ∗ zero c (recvS k) ∗ ∃ W, owes (c : Thread nD τ) 0 W) -∗ wpc c rest Q))
      ⊢ wpc c (pRecv c k rest) Q := by
  unfold pRecv
  iintro ⟨#HI, Hcr, Hat, HO, Hk⟩
  iapply (Rounds.wp_wait_rest_token 𝒱₀ ER (rd X) (c : Thread nD τ) none (κ := κ)
      (wpE_waitDma2_eq 𝒱₀ (c : Thread nD τ) none Set.univ) (Set.mem_univ _) () (O := 0) (W := W) (R := 0) (m := 0) (T := ∅)
      (by rw [Nat.zero_add, expect_recv])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_recv X c k)) $$ Hpay
  imod (Rounds.cell_close ER (rd X) (Set.mem_univ κ) (fun h => h) (R := 0 + 1) (duties_later X (recvCell c k))) $$ [Hat] with Hz
  · isplitr; · iexact HI
    iexact Hat
  iapply Hk
  isplitl [Hp]; · unfold recvPay; iexact Hp
  isplitl [Hz]; · iexact Hz
  iexists _; iexact HO

end Cert.GatherProof

end
-- ==== Proof.Body.lean ====
module

public import proofs.«01_k».proof.Proof.Steps

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Changing one member of a family -/

/-- The member at `a` may be taken out, and its like in a family that agrees elsewhere put back. -/
theorem family_at {I : Type} [Fintype I] [DecidableEq I] (Φ Ψ : I → sProp 𝕄) (a : I) (h : ∀ j, j ≠ a → Φ j = Ψ j) :
    bigSep Finset.univ Φ ⊢ iprop(Φ a ∗ (Ψ a -∗ bigSep Finset.univ Ψ)) := by
  rw [bigSep_univ_at Φ a, bigSep_univ_at Ψ a, bigSep_congr (s := Finset.univ.erase a) fun j hj => h j (Finset.ne_of_mem_erase hj)]
  iintro ⟨Ha, Hr⟩
  isplitl [Ha]; · iexact Ha
  iintro Ha
  isplitl [Ha] <;> iassumption

/-! ## What a device holds between chunks -/

/-- What an unsent chunk needs: the neighbour's rows and the own rows it becomes, its semaphore, the neighbour's arrival to pay. -/
def todo (c : Dev nD) (j : Fin 16) : sProp 𝕄 :=
  iprop((∃ f, oP (tgt c) c j f) ∗ (∃ f, oP c c j f) ∗ zero c (sendS j) ∗ dutyTok ER (recvCell (tgt c) j) 0 false)
/-- What a finished chunk leaves: its rows of the own result, its semaphore. -/
def done (X : Dev nD → XTy F) (c : Dev nD) (j : Fin 16) : sProp 𝕄 := iprop(oP c c j (res X c) ∗ zero c (sendS j))

/-- Chunk `j` when the chunks before `k` are sent and the copies of those before `n` are known to be over. -/
def chunkAt (X : Dev nD → XTy F) (c : Dev nD) (n k : ℕ) (j : Fin 16) : sProp 𝕄 :=
  if k ≤ j.val then iprop(todo c j ∗ (if j.val < 8 then bFree c (s8 j) else iprop(emp)))
  else if n ≤ j.val then iprop(sending X c j ∗ storing X c j)
  else iprop(done X c j ∗ (if 8 ≤ j.val then bFree c (s8 j) else iprop(emp)))
def chunks (X : Dev nD → XTy F) (c : Dev nD) (n k : ℕ) : sProp 𝕄 := bigSep Finset.univ (chunkAt X c n k)

/-- The argument's chunks, those from `p` to `q` away. -/
def argAt (X : Dev nD → XTy F) (c : Dev nD) (p q : ℕ) (j : Fin 16) : sProp 𝕄 :=
  if p ≤ j.val ∧ j.val < q then iprop(emp) else xP (X c) c j
def arg (X : Dev nD → XTy F) (c : Dev nD) (p q : ℕ) : sProp 𝕄 := bigSep Finset.univ (argAt X c p q)

/-- The arrival cells of the neighbour's exchange, all at their first round. -/
def near (X : Dev nD → XTy F) (K : Dev nD × Option (Fin 16) → ℕ) (c : Dev nD) : sProp 𝕄 :=
  bigSep Finset.univ fun j : Fin 16 => iprop(cellInv ER (rd X) (K (tgt c, some j)) (recvCell (tgt c) j) ∗ reached ER (recvCell (tgt c) j) 0)
instance near_persistent (X : Dev nD → XTy F) (K : Dev nD × Option (Fin 16) → ℕ) (c : Dev nD) : BI.Persistent (near X K c) := by unfold near; infer_instance

variable (X : Dev nD → XTy F) (K : Dev nD × Option (Fin 16) → ℕ) (c : Dev nD) (k : Fin 16) (rest : Pg F) (Q : PUnit.{1} → sProp (MT nD τ sig Unit (Elt F) ℕ UU ℕ))

/-- One of them. -/
theorem near_at : near X K c ⊢ iprop(cellInv ER (rd X) (K (tgt c, some k)) (recvCell (tgt c) k) ∗ reached ER (recvCell (tgt c) k) 0) := by
  unfold near
  exact bigSep_elim (Finset.mem_univ k)

/-- Starting the load of chunk `k` takes it from the argument. -/
theorem arg_load (p : ℕ) (h : p ≤ k.val) : arg X c p k.val ⊢ iprop(xP (X c) c k ∗ arg X c p (k.val + 1)) := by
  have hΦ : argAt X c p k.val k = xP (X c) c k := if_neg fun h => by omega
  have hΨ : argAt X c p (k.val + 1) k = iprop(emp) := if_pos ⟨h, by omega⟩
  unfold arg
  refine (family_at (argAt X c p k.val) (argAt X c p (k.val + 1)) k fun j hj => ?_).trans ?_
  · have : j.val ≠ k.val := fun e => hj (Fin.ext e)
    unfold argAt
    exact if_congr (by omega) rfl rfl
  · rw [hΦ, hΨ]
    iintro ⟨Hx, Hr⟩
    isplitl [Hx]; · iexact Hx
    iapply Hr; iempintro

/-- The end of its load gives it back. -/
theorem arg_back (q : ℕ) (h : k.val < q) : iprop(arg X c k.val q ∗ xP (X c) c k) ⊢ arg X c (k.val + 1) q := by
  have hΨ : argAt X c (k.val + 1) q k = xP (X c) c k := if_neg fun h => by omega
  unfold arg
  iintro ⟨Ha, Hx⟩
  ihave H := (family_at (argAt X c k.val q) (argAt X c (k.val + 1) q) k (fun j hj => by
    have : j.val ≠ k.val := fun e => hj (Fin.ext e)
    unfold argAt
    exact if_congr (by omega) rfl rfl)) $$ Ha
  icases H with ⟨-, Hr⟩
  iapply Hr; rw [hΨ]; iexact Hx

/-- Sending chunk `k` changes its member of the family. -/
theorem chunks_send (n : ℕ) (h : n ≤ k.val) :
    chunks X c n k.val ⊢ iprop((todo c k ∗ (if k.val < 8 then bFree c (s8 k) else iprop(emp))) ∗ ((sending X c k ∗ storing X c k) -∗ chunks X c n (k.val + 1))) := by
  have hΦ : chunkAt X c n k.val k = iprop(todo c k ∗ (if k.val < 8 then bFree c (s8 k) else iprop(emp))) := if_pos (le_refl _)
  have hΨ : chunkAt X c n (k.val + 1) k = iprop(sending X c k ∗ storing X c k) := (if_neg (by omega)).trans (if_pos h)
  unfold chunks
  rw [← hΦ, ← hΨ]
  refine family_at _ _ k fun j hj => ?_
  have : j.val ≠ k.val := fun e => hj (Fin.ext e)
  unfold chunkAt
  exact if_congr (by omega) rfl rfl

/-- So does learning that its copies are over. -/
theorem chunks_free (m : ℕ) (h : k.val < m) :
    chunks X c k.val m ⊢ iprop((sending X c k ∗ storing X c k) ∗ ((done X c k ∗ (if 8 ≤ k.val then bFree c (s8 k) else iprop(emp))) -∗ chunks X c (k.val + 1) m)) := by
  have hΦ : chunkAt X c k.val m k = iprop(sending X c k ∗ storing X c k) := (if_neg (by omega)).trans (if_pos (le_refl _))
  have hΨ : chunkAt X c (k.val + 1) m k = iprop(done X c k ∗ (if 8 ≤ k.val then bFree c (s8 k) else iprop(emp))) := (if_neg (by omega)).trans (if_neg (by omega))
  unfold chunks
  rw [← hΦ, ← hΨ]
  refine family_at _ _ k fun j hj => ?_
  have : j.val ≠ k.val := fun e => hj (Fin.ext e)
  unfold chunkAt
  exact if_congr Iff.rfl rfl (if_congr (by omega) rfl rfl)

/-! ## One chunk -/

/-- Rounding a loaded chunk and starting its copies. -/
theorem castSend_step :
    iprop(near X K c ∗ fP c (s2 k) (fVal (X c) k) ∗ todo c k ∗ bFree c (s8 k) ∗ (∃ W, owes (c : Thread nD τ) (owe c k.val) W)
        ∗ ((fP c (s2 k) (fVal (X c) k) ∗ sending X c k ∗ storing X c k ∗ ∃ W, owes (c : Thread nD τ) (owe c (k.val + 1)) W) -∗ wpc c rest Q))
      ⊢ wpc c (pCast k (pSend c k rest)) Q := by
  unfold todo bFree
  iintro ⟨#Hnear, Hf, ⟨Hn, Ho, Hz1, Htok⟩, ⟨⟨%f, Hb⟩, Hz2⟩, ⟨%W, HO⟩, Hk⟩
  iapply (cast_step X c k _ Q f)
  isplitl [Hf]; · iexact Hf
  isplitl [Hb]; · iexact Hb
  iintro ⟨Hf, Hb⟩
  iapply (send_step X c k rest Q (K (tgt c, some k)) W)
  isplitr; · iapply (near_at X K c k); iexact Hnear
  isplitl [Htok]; · iexact Htok
  isplitl [Hb]; · iexact Hb
  isplitl [Hn]; · iexact Hn
  isplitl [Ho]; · iexact Ho
  isplitl [Hz1]; · iexact Hz1
  isplitl [Hz2]; · iexact Hz2
  isplitl [HO]; · iexact HO
  iintro ⟨H1, H2, H3⟩
  iapply Hk
  isplitl [Hf]; · iexact Hf
  isplitl [H1]; · iexact H1
  isplitl [H2] <;> iassumption

/-- A chunk's part after the next load is started. -/
theorem rest_step (q : ℕ) (hq : k.val < q) :
    iprop(levAts L lv ∗ near X K c ∗ loading X c k ∗ arg X c k.val q ∗ chunks X c (k.val - 8) k.val ∗ (∃ W, owes (c : Thread nD τ) (owe c k.val) W)
        ∗ ((fFree c (s2 k) ∗ arg X c (k.val + 1) q ∗ chunks X c (k.val + 1 - 8) (k.val + 1) ∗ ∃ W, owes (c : Thread nD τ) (owe c (k.val + 1)) W) -∗ wpc c rest Q))
      ⊢ wpc c (pLoadWait k (if h : 8 ≤ k.val then pFree c ⟨k.val - 8, by omega⟩ (pCast k (pSend c k rest)) else pCast k (pSend c k rest))) Q := by
  iintro ⟨#Hlev, #Hnear, Hl, Hx, Hc, ⟨%W, HO⟩, Hk⟩
  iapply (loadWait_step X c k _ Q k.val W)
  isplitr; · iexact Hlev
  isplitl [Hl]; · iexact Hl
  isplitl [HO]; · iexact HO
  iintro ⟨Hf, Hxk, Hz, HO⟩
  ihave Hx := (arg_back X c k q hq) $$ [Hx Hxk]
  · isplitl [Hx] <;> iassumption
  by_cases h : 8 ≤ k.val
  · rw [dif_pos h]
    have h8 : s8 (⟨k.val - 8, by omega⟩ : Fin 16) = s8 k := Fin.ext (by show (k.val - 8) % 8 = k.val % 8; omega)
    have hk := k.isLt
    ihave Hc := (chunks_free X c ⟨k.val - 8, by omega⟩ k.val (by show k.val - 8 < k.val; omega)) $$ Hc
    icases Hc with ⟨⟨Hs, Hst⟩, Hc⟩
    icases HO with ⟨%W2, HO⟩
    iapply (free_step X c _ Q _ k.val W2)
    isplitr; · iexact Hlev
    isplitl [Hs]; · iexact Hs
    isplitl [Hst]; · iexact Hst
    isplitl [HO]; · iexact HO
    rw [h8, if_neg (show ¬ 8 ≤ k.val - 8 by omega)]
    iintro ⟨Ho, Hzs, Hb, HO⟩
    ihave Hc := Hc $$ [Ho Hzs]
    · unfold done
      isplitl [Ho Hzs]; · isplitl [Ho] <;> iassumption
      iempintro
    rw [show k.val - 8 + 1 = k.val + 1 - 8 by omega]
    ihave Hc := (chunks_send X c k (k.val + 1 - 8) (by omega)) $$ Hc
    icases Hc with ⟨⟨Ht, -⟩, Hc⟩
    iapply (castSend_step X K c k rest Q)
    isplitr; · iexact Hnear
    isplitl [Hf]; · iexact Hf
    isplitl [Ht]; · iexact Ht
    isplitl [Hb]; · iexact Hb
    isplitl [HO]; · iexact HO
    iintro ⟨Hf, H1, H2, HO⟩
    iapply Hk
    isplitl [Hf Hz]
    · unfold fFree; isplitl [Hf]; · iexists _; iexact Hf
      iexact Hz
    isplitl [Hx]; · iexact Hx
    isplitl [H1 H2 Hc]
    · iapply Hc; isplitl [H1] <;> iassumption
    iexact HO
  · rw [dif_neg h, show k.val - 8 = k.val + 1 - 8 by omega]
    ihave Hc := (chunks_send X c k (k.val + 1 - 8) (by omega)) $$ Hc
    rw [if_pos (show k.val < 8 by omega)]
    icases Hc with ⟨⟨Ht, Hb⟩, Hc⟩
    iapply (castSend_step X K c k rest Q)
    isplitr; · iexact Hnear
    isplitl [Hf]; · iexact Hf
    isplitl [Ht]; · iexact Ht
    isplitl [Hb]; · iexact Hb
    isplitl [HO]; · iexact HO
    iintro ⟨Hf, H1, H2, HO⟩
    iapply Hk
    isplitl [Hf Hz]
    · unfold fFree; isplitl [Hf]; · iexists _; iexact Hf
      iexact Hz
    isplitl [Hx]; · iexact Hx
    isplitl [H1 H2 Hc]
    · iapply Hc; isplitl [H1] <;> iassumption
    iexact HO

/-- The float32 slots when the chunks before `k` are over: one being loaded and one free, at the end both free. -/
def slots (X : Dev nD → XTy F) (c : Dev nD) (k : ℕ) : sProp 𝕄 :=
  iprop((if h : k < 16 then loading X c ⟨k, h⟩ else fFree c ⟨k % 2, Nat.mod_lt _ (by decide)⟩) ∗ fFree c ⟨(k + 1) % 2, Nat.mod_lt _ (by decide)⟩)

/-- What the device holds when the chunks before `k` are over. -/
def between (X : Dev nD → XTy F) (K : Dev nD × Option (Fin 16) → ℕ) (c : Dev nD) (k : ℕ) : sProp 𝕄 :=
  iprop(levAts L lv ∗ near X K c ∗ slots X c k ∗ arg X c k (k + 1) ∗ chunks X c (k - 8) k ∗ ∃ W, owes (c : Thread nD τ) (owe c k) W)

/-- Chunk `k` runs from the state before it to the state after it. -/
theorem chunk_step : iprop(between X K c k.val ∗ (between X K c (k.val + 1) -∗ wpc c rest Q)) ⊢ wpc c (pChunk c k rest) Q := by
  have hk := k.isLt
  unfold between slots pChunk
  rw [dif_pos hk]
  dsimp only
  have hs : (⟨(k.val + 1 + 1) % 2, Nat.mod_lt _ (by decide)⟩ : Fin 2) = s2 k := Fin.ext (by show (k.val + 1 + 1) % 2 = k.val % 2; omega)
  rw [hs]
  iintro ⟨⟨#Hlev, #Hnear, ⟨Hl, Hfr⟩, Hx, Hc, HO⟩, Hk⟩
  by_cases h : k.val + 1 < 16
  · rw [dif_pos h, dif_pos h]
    ihave Hx := (arg_load X c ⟨k.val + 1, h⟩ k.val (by show k.val ≤ k.val + 1; omega)) $$ Hx
    icases Hx with ⟨Hxn, Hx⟩
    iapply (load_step X c ⟨k.val + 1, h⟩ _ Q)
    isplitl [Hxn]; · iexact Hxn
    isplitl [Hfr]; · iexact Hfr
    iintro Hln
    iapply (rest_step X K c k rest Q (k.val + 1 + 1) (by omega))
    isplitr; · iexact Hlev
    isplitr; · iexact Hnear
    isplitl [Hl]; · iexact Hl
    isplitl [Hx]; · iexact Hx
    isplitl [Hc]; · iexact Hc
    isplitl [HO]; · iexact HO
    iintro ⟨Hf, Hx, Hc, HO⟩
    iapply Hk
    isplitr; · iexact Hlev
    isplitr; · iexact Hnear
    isplitl [Hln Hf]; · isplitl [Hln] <;> iassumption
    isplitl [Hx]; · iexact Hx
    isplitl [Hc] <;> iassumption
  · rw [dif_neg h, dif_neg h]
    iapply (rest_step X K c k rest Q (k.val + 1) (by omega))
    isplitr; · iexact Hlev
    isplitr; · iexact Hnear
    isplitl [Hl]; · iexact Hl
    isplitl [Hx]; · iexact Hx
    isplitl [Hc]; · iexact Hc
    isplitl [HO]; · iexact HO
    iintro ⟨Hf, Hx, Hc, HO⟩
    iapply Hk
    isplitr; · iexact Hlev
    isplitr; · iexact Hnear
    isplitl [Hfr Hf]; · isplitl [Hfr] <;> iassumption
    isplitl [Hx]
    · unfold arg
      iapply (Entails.of_eq (bigSep_congr fun j _ => by
        have hj := j.isLt
        unfold argAt
        rw [if_neg (fun e => by omega), if_neg (fun e => by omega)])) $$ Hx
    isplitl [Hc] <;> iassumption

end Cert.GatherProof

end
-- ==== Proof.Whole.lean ====
module

public import proofs.«01_k».proof.Proof.Body

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## A step at each entry of a list -/

/-- If every step leads from state `I k` to `I (k + 1)`, the steps at `a, a + 1, …` lead from `I a` to the state after the last. -/
theorem each_step (c : Dev nD) (I : ℕ → sProp 𝕄) (step : Fin 16 → Pg F → Pg F) (Q : PUnit.{1} → sProp (MT nD τ sig Unit (Elt F) ℕ UU ℕ))
    (rest : Pg F) : ∀ (l : List (Fin 16)) (a : ℕ), l.map Fin.val = List.range' a l.length →
    (∀ k ∈ l, ∀ rest, iprop(I k.val ∗ (I (k.val + 1) -∗ wpc c rest Q)) ⊢ wpc c (step k rest) Q) →
    iprop(I a ∗ (I (a + l.length) -∗ wpc c rest Q)) ⊢ wpc c (pEach step l rest) Q
  | [], a, _, _ => by
    iintro ⟨HI, Hk⟩
    iapply Hk; iexact HI
  | k :: ks, a, h, hs => by
    rw [List.map_cons, List.length_cons, List.range'_succ, List.cons.injEq] at h
    obtain ⟨rfl, h⟩ := h
    refine BIBase.Entails.trans ?_ (hs k List.mem_cons_self (pEach step ks rest))
    iintro ⟨HI, Hk⟩
    isplitl [HI]; · iexact HI
    iintro HI
    iapply (each_step c I step Q rest ks (k.val + 1) h fun j hj => hs j (List.mem_cons_of_mem _ hj))
    isplitl [HI]; · iexact HI
    rw [List.length_cons, show k.val + (ks.length + 1) = k.val + 1 + ks.length by omega]
    iexact Hk

variable (X : Dev nD → XTy F) (K : Dev nD × Option (Fin 16) → ℕ) (c : Dev nD) (k : Fin 16) (rest : Pg F) (Q : PUnit.{1} → sProp (MT nD τ sig Unit (Elt F) ℕ UU ℕ))

/-! ## The last copies and the arrivals -/

/-- What the device holds once every chunk is sent and the copies of those before `n` are over. -/
def tail (X : Dev nD → XTy F) (c : Dev nD) (n : ℕ) : sProp 𝕄 :=
  iprop(levAts L lv ∗ chunks X c n 16 ∗ ∃ W, owes (c : Thread nD τ) (owe c 16) W)

/-- One round of the tail: the copies of chunk `k` have left their slot. -/
theorem tail_step (h : 8 ≤ k.val) : iprop(tail X c k.val ∗ (tail X c (k.val + 1) -∗ wpc c rest Q)) ⊢ wpc c (pFree c k rest) Q := by
  unfold tail
  iintro ⟨⟨#Hlev, Hc, ⟨%W, HO⟩⟩, Hk⟩
  ihave Hc := (chunks_free X c k 16 k.isLt) $$ Hc
  rw [if_pos h]
  icases Hc with ⟨⟨Hs, Hst⟩, Hc⟩
  iapply (free_step X c rest Q k 16 W)
  isplitr; · iexact Hlev
  isplitl [Hs]; · iexact Hs
  isplitl [Hst]; · iexact Hst
  isplitl [HO]; · iexact HO
  iintro ⟨Ho, Hz, Hb, HO⟩
  iapply Hk
  isplitr; · iexact Hlev
  isplitl [Ho Hz Hb Hc]
  · iapply Hc
    isplitl [Ho Hz]
    · unfold done; isplitl [Ho] <;> iassumption
    iexact Hb
  iexact HO

/-- Arrival `j` when those before `n` are in: its rows of the result, or what its wait needs. -/
def arrAt (X : Dev nD → XTy F) (c : Dev nD) (n : ℕ) (j : Fin 16) : sProp 𝕄 :=
  if n ≤ j.val then iprop(cred (tallyAt (recvCell c j) () NB) ∗ atPos ER (recvCell c j) 0 ∅ 0)
  else iprop(oP c (tgt c) j (res X c) ∗ zero c (recvS j))
/-- The device's own arrival cells. -/
def mine (X : Dev nD → XTy F) (K : Dev nD × Option (Fin 16) → ℕ) (c : Dev nD) : sProp 𝕄 :=
  bigSep Finset.univ fun j : Fin 16 => cellInv ER (rd X) (K (c, some j)) (recvCell c j)
instance mine_persistent (X : Dev nD → XTy F) (K : Dev nD × Option (Fin 16) → ℕ) (c : Dev nD) : BI.Persistent (mine X K c) := by unfold mine; infer_instance
/-- The invariant of one of the device's own receives, out of all of them. -/
theorem mine_at : mine X K c ⊢ cellInv ER (rd X) (K (c, some k)) (recvCell c k) := by unfold mine; exact bigSep_elim (Finset.mem_univ k)

def arrivals (X : Dev nD → XTy F) (K : Dev nD × Option (Fin 16) → ℕ) (c : Dev nD) (n : ℕ) : sProp 𝕄 :=
  iprop(mine X K c ∗ bigSep Finset.univ (arrAt X c n) ∗ ∃ W, owes (c : Thread nD τ) 0 W)

/-- One round of the last loop: chunk `k` has arrived from the neighbour. -/
theorem arrival_step : iprop(arrivals X K c k.val ∗ (arrivals X K c (k.val + 1) -∗ wpc c rest Q)) ⊢ wpc c (pRecv c k rest) Q := by
  have hΦ : arrAt X c k.val k = iprop(cred (tallyAt (recvCell c k) () NB) ∗ atPos ER (recvCell c k) 0 ∅ 0) := if_pos (le_refl _)
  have hΨ : arrAt X c (k.val + 1) k = iprop(oP c (tgt c) k (res X c) ∗ zero c (recvS k)) := if_neg (by omega)
  unfold arrivals
  iintro ⟨⟨#Hm, Ha, ⟨%W, HO⟩⟩, Hk⟩
  ihave Ha := (family_at (arrAt X c k.val) (arrAt X c (k.val + 1)) k (fun j hj => by
    have : j.val ≠ k.val := fun e => hj (Fin.ext e)
    unfold arrAt
    exact if_congr (by omega) rfl rfl)) $$ Ha
  rw [hΦ, hΨ]
  icases Ha with ⟨⟨Hcr, Hat⟩, Ha⟩
  iapply (recv_step X c k rest Q (K (c, some k)) W)
  isplitr; · iapply (mine_at X K c k); iexact Hm
  isplitl [Hcr]; · iexact Hcr
  isplitl [Hat]; · iexact Hat
  isplitl [HO]; · iexact HO
  iintro ⟨Ho, Hz, HO⟩
  iapply Hk
  isplitr; · iexact Hm
  isplitl [Ho Hz Ha]
  · iapply Ha; isplitl [Ho] <;> iassumption
  iexact HO

/-! ## The families at the two ends -/

/-- A family over sixteen is one over the first eight and one over the last. -/
theorem halves (Φ : Fin 16 → sProp 𝕄) :
    bigSep Finset.univ Φ = iprop((bigSep Finset.univ fun i : Fin 8 => Φ ⟨i.val, by omega⟩) ∗ bigSep Finset.univ fun i : Fin 8 => Φ ⟨8 + i.val, by omega⟩) := by
  rw [bigSep_univ_equiv (finSumFinEquiv : Fin 8 ⊕ Fin 8 ≃ Fin 16) Φ]
  exact bigSep_univ_sum _

/-- Eight times nothing is nothing. -/
theorem none_of : (bigSep Finset.univ fun _ : Fin 8 => (iprop(emp) : sProp 𝕄)) = iprop(emp) := bigSep_emp_const _
/-- A family over two slots is its two members. -/
theorem both (Φ : Fin 2 → sProp 𝕄) : bigSep Finset.univ Φ = iprop(Φ 0 ∗ Φ 1) := bigSep_fin_two Φ

/-- Something for each of the first eight chunks, by its slot, is something for each slot. -/
theorem firstHalf (Φ : Fin 8 → sProp 𝕄) :
    bigSep Finset.univ (fun j : Fin 16 => if j.val < 8 then Φ (s8 j) else iprop(emp)) = bigSep Finset.univ Φ := by
  rw [halves]
  have h1 : (fun i : Fin 8 => if (⟨i.val, by omega⟩ : Fin 16).val < 8 then Φ (s8 ⟨i.val, by omega⟩) else iprop(emp)) = Φ :=
    funext fun i => (if_pos i.isLt).trans (congrArg Φ (Fin.ext (Nat.mod_eq_of_lt i.isLt)))
  have h2 : (fun i : Fin 8 => if (⟨8 + i.val, by omega⟩ : Fin 16).val < 8 then Φ (s8 ⟨8 + i.val, by omega⟩) else iprop(emp)) = fun _ => (iprop(emp) : sProp 𝕄) :=
    funext fun i => if_neg (by show ¬ 8 + i.val < 8; omega)
  rw [h1, h2, none_of]
  exact equiv_iff.mp sep_emp

/-- Something for each of the last eight chunks, by its slot, is something for each slot. -/
theorem lastHalf (Φ : Fin 8 → sProp 𝕄) :
    bigSep Finset.univ (fun j : Fin 16 => if 8 ≤ j.val then Φ (s8 j) else iprop(emp)) = bigSep Finset.univ Φ := by
  rw [halves]
  have h1 : (fun i : Fin 8 => if 8 ≤ (⟨i.val, by omega⟩ : Fin 16).val then Φ (s8 ⟨i.val, by omega⟩) else iprop(emp)) = fun _ => (iprop(emp) : sProp 𝕄) :=
    funext fun i => if_neg (by show ¬ 8 ≤ i.val; omega)
  have h2 : (fun i : Fin 8 => if 8 ≤ (⟨8 + i.val, by omega⟩ : Fin 16).val then Φ (s8 ⟨8 + i.val, by omega⟩) else iprop(emp)) = Φ :=
    funext fun i => (if_pos (by show 8 ≤ 8 + i.val; omega)).trans (congrArg Φ (Fin.ext (by show (8 + i.val) % 8 = i.val; omega)))
  rw [h1, h2, none_of]
  exact equiv_iff.mp emp_sep

/-- With no load under way every chunk of the argument is at rest. -/
theorem arg_all (p q : ℕ) (h : 16 ≤ p ∨ q ≤ p) : arg X c p q = bigSep Finset.univ fun j => xP (X c) c j := by
  unfold arg
  exact bigSep_congr fun j _ => if_neg fun hj => by have := j.isLt; omega

/-- Before the first chunk: everything still to do. -/
theorem chunks_zero : chunks X c 0 0 = iprop(((bigSep Finset.univ fun j => iprop(∃ f, oP (F := F) (tgt c) c j f)) ∗ (bigSep Finset.univ fun j => iprop(∃ f, oP (F := F) c c j f))
      ∗ (bigSep Finset.univ fun j => zero c (sendS j)) ∗ bigSep Finset.univ fun j => dutyTok ER (recvCell (tgt c) j) 0 false) ∗ bigSep Finset.univ (bFree c)) := by
  unfold chunks
  rw [← firstHalf (bFree c), ← bigSep_sep', ← bigSep_sep', ← bigSep_sep', ← bigSep_sep']
  exact bigSep_congr fun j _ => (if_pos (Nat.zero_le _)).trans (by unfold todo; rfl)

/-- After the last: every chunk finished. -/
theorem chunks_end : chunks X c 16 16 = iprop(((bigSep Finset.univ fun j => oP c c j (res X c)) ∗ (bigSep Finset.univ fun j => zero c (sendS j))) ∗ bigSep Finset.univ (bFree c)) := by
  unfold chunks
  rw [← lastHalf (bFree c), ← bigSep_sep', ← bigSep_sep']
  exact bigSep_congr fun j _ => (if_neg (by have := j.isLt; omega)).trans ((if_neg (by have := j.isLt; omega)).trans (by unfold done; rfl))

/-- Before the first arrival: a credit and a position for each. -/
theorem arr_zero : bigSep Finset.univ (arrAt X c 0) = iprop((bigSep Finset.univ fun j => cred (tallyAt (recvCell c j) () NB)) ∗ bigSep Finset.univ fun j => atPos ER (recvCell c j) 0 ∅ 0) := by
  rw [← bigSep_sep']
  exact bigSep_congr fun j _ => if_pos (Nat.zero_le _)
/-- After the last: every chunk of the neighbour's half, and the receives' counters at zero. -/
theorem arr_end : bigSep Finset.univ (arrAt X c 16) = iprop((bigSep Finset.univ fun j => oP c (tgt c) j (res X c)) ∗ bigSep Finset.univ fun j => zero c (recvS j)) := by
  rw [← bigSep_sep']
  exact bigSep_congr fun j _ => if_neg (by have := j.isLt; omega)

/-! ## The whole program -/

/-- What the handshake with the neighbour needs: the two barrier cells, the unit to wait for, the unit to pay. -/
def shake (X : Dev nD → XTy F) (K : Dev nD × Option (Fin 16) → ℕ) (c : Dev nD) : sProp 𝕄 :=
  iprop(cellInv ER (rd X) (K (c, none)) (barCell c) ∗ cellInv ER (rd X) (K (tgt c, none)) (barCell (tgt c)) ∗ reached ER (barCell (tgt c)) 0
    ∗ atPos ER (barCell c) 0 ∅ 0 ∗ cred (tallyAt (barCell c) () 1) ∗ dutyTok ER (barCell (tgt c)) 0 false)

/-- The handshake: the device's rows for the neighbour's chunks go out, the neighbour's rows for its own come in. -/
theorem shake_step (W : Waits sig Unit) :
    iprop(levAts L lv ∗ shake X K c ∗ barPay (tgt c) ∗ owes (c : Thread nD τ) (owe₀ c) W
        ∗ ((barPay c ∗ semVal (barCell c) 0 ∗ ∃ W, owes (c : Thread nD τ) (owe c 0) W) -∗ wpc c rest Q))
      ⊢ wpc c (Prog.op (.semSignal (Dev.tc (tgt c)) barS 1) fun _ => Prog.op (.semWait barS 1) fun _ => rest) Q := by
  unfold shake
  iintro ⟨#Hlev, ⟨#HI, #HIn, #HRn, Hat, Hcr, Htok⟩, Hpay, HO, Hk⟩
  iapply (Rounds.wp_signal 𝒱₀ ER (rd X) (c : Thread nD τ) none (dst := (tgt c : Thread nD τ)) (κ := K (tgt c, none))
      (d := false) (by rw [duties_cell X (tgt c) none]; exact Finset.mem_singleton_self _) (amount_bar X (tgt c) false) () (owe c 0) rfl)
    $$ [HO Htok Hpay]
  · isplitr; · iexact HIn
    isplitl [HO]; · iexact HO
    isplitl [Htok]; · iexact Htok
    isplitl [Hpay]; · rw [payload_bar]; iexact Hpay
    iexact HRn
  iintro HO
  iapply (Rounds.wp_wait_rest_token 𝒱₀ ER (rd X) (c : Thread nD τ) none (κ := K (c, none))
      (wpE_semWait_eq 𝒱₀ (c : Thread nD τ) none Set.univ) (Set.mem_univ _) () (O := owe c 0) (W := W) (R := 0) (m := 0) (T := ∅)
      (by rw [expect_bar])) $$ [Hcr HO Hat]
  · isplitr; · iexact HI
    isplitl [Hcr]; · iexact Hcr
    isplitl [HO]; · iexact HO
    isplitr; · iapply (mayWait (F := F) c (.reg barS) (le_of_eq (lv_bar c)) 0); iexact Hlev
    iexact Hat
  iintro ⟨HO, Hat, -, Hpay⟩
  ihave Hp := (Entails.of_eq (rest_bar X c)) $$ Hpay
  imod (Rounds.cell_close ER (rd X) (Set.mem_univ (K (c, none))) (fun h => h) (R := 0 + 1) (duties_later X (barCell c))) $$ [Hat] with Hz
  · isplitr; · iexact HI
    iexact Hat
  iapply Hk
  isplitl [Hp]; · iexact Hp
  isplitl [Hz]; · iexact Hz
  iexists _; iexact HO

/-- What the program starts from. -/
def before (X : Dev nD → XTy F) (K : Dev nD × Option (Fin 16) → ℕ) (c : Dev nD) : sProp 𝕄 :=
  iprop(levAts L lv ∗ near X K c ∗ mine X K c ∗ shake X K c
    ∗ (bigSep Finset.univ fun j => dutyTok ER (recvCell (tgt c) j) 0 false)
    ∗ (bigSep Finset.univ fun j => cred (tallyAt (recvCell c j) () NB)) ∗ (bigSep Finset.univ fun j => atPos ER (recvCell c j) 0 ∅ 0)
    ∗ barPay (tgt c) ∗ (bigSep Finset.univ fun j => iprop(∃ f, oP (F := F) c c j f)) ∗ (bigSep Finset.univ fun j => zero c (sendS j))
    ∗ (bigSep Finset.univ fun j => xP (X c) c j) ∗ bigSep Finset.univ (fFree c) ∗ bigSep Finset.univ (bFree c))

/-- What it ends with: the argument as it was, the whole result, every slot free, every semaphore at zero. -/
def after (X : Dev nD → XTy F) (c : Dev nD) : sProp 𝕄 :=
  iprop((bigSep Finset.univ fun j => xP (X c) c j) ∗ (bigSep Finset.univ fun j => oP c c j (res X c)) ∗ (bigSep Finset.univ fun j => oP c (tgt c) j (res X c))
    ∗ bigSep Finset.univ (fFree c) ∗ bigSep Finset.univ (bFree c)
    ∗ (bigSep Finset.univ fun j => zero c (sendS j)) ∗ (bigSep Finset.univ fun j => zero c (recvS j)) ∗ semVal (barCell c) 0)

/-- The program runs from the one to the other. -/
theorem prog_step (W : Waits sig Unit) :
    iprop(before X K c ∗ owes (c : Thread nD τ) (owe₀ c) W ∗ ((after X c ∗ ∃ W, owes (c : Thread nD τ) 0 W) -∗ Q ⟨⟩)) ⊢ wpc c (prog c) Q := by
  unfold prog before
  iintro ⟨⟨#Hlev, #Hnear, #Hmine, Hshake, Htok, Hcr, Hat, Hpay, Ho, Hzs, Hx, Hf, Hb⟩, HO, Hk⟩
  iapply (shake_step X K c _ Q W)
  isplitr; · iexact Hlev
  isplitl [Hshake]; · iexact Hshake
  isplitl [Hpay]; · iexact Hpay
  isplitl [HO]; · iexact HO
  iintro ⟨Hpay, Hzb, HO⟩
  unfold barPay
  ihave Hc := (Entails.of_eq (chunks_zero X c).symm) $$ [Hpay Ho Hzs Htok Hb]
  · isplitl [Hpay Ho Hzs Htok]
    · isplitl [Hpay]; · iexact Hpay
      isplitl [Ho]; · iexact Ho
      isplitl [Hzs] <;> iassumption
    iexact Hb
  ihave Hx := ((Entails.of_eq (arg_all X c 0 0 (Or.inr (le_refl _))).symm).trans (arg_load X c 0 0 (le_refl _))) $$ Hx
  icases Hx with ⟨Hx0, Hx⟩
  ihave Hf := (Entails.of_eq (both (fFree c))) $$ Hf
  icases Hf with ⟨Hf0, Hf1⟩
  iapply (load_step X c 0 _ Q)
  isplitl [Hx0]; · iexact Hx0
  isplitl [Hf0]; · iexact Hf0
  iintro Hl
  iapply (each_step c (between X K c) (pChunk c) Q _ allChunks 0 (by decide) (fun k _ rest => chunk_step X K c k rest Q))
  isplitl [Hl Hx Hf1 Hc HO]
  · unfold between slots
    isplitr; · iexact Hlev
    isplitr; · iexact Hnear
    isplitl [Hl Hf1]
    · rw [dif_pos (show 0 < 16 by decide)]
      isplitl [Hl]; · iexact Hl
      iexact Hf1
    isplitl [Hx]; · iexact Hx
    isplitl [Hc]; · iexact Hc
    iexact HO
  iintro Hbt
  unfold between slots
  rw [show 0 + allChunks.length = 16 from rfl]
  rw [dif_neg (show ¬ 16 < 16 by decide)]
  icases Hbt with ⟨-, -, ⟨Hf0, Hf1⟩, Hx, Hc, HO⟩
  iapply (each_step c (tail X c) (pFree c) Q _ lastChunks 8 (by decide) (fun k hk rest => tail_step X c k rest Q (by revert k; decide)))
  isplitl [Hc HO]
  · unfold tail
    isplitr; · iexact Hlev
    isplitl [Hc]; · iexact Hc
    iexact HO
  iintro Ht
  unfold tail
  rw [show 8 + lastChunks.length = 16 from rfl, owe_end]
  icases Ht with ⟨-, Hc, HO⟩
  iapply (each_step c (arrivals X K c) (pRecv c) Q _ allChunks 0 (by decide) (fun k _ rest => arrival_step X K c k rest Q))
  isplitl [Hcr Hat HO]
  · unfold arrivals
    isplitr; · iexact Hmine
    isplitl [Hcr Hat]
    · rw [arr_zero]; isplitl [Hcr] <;> iassumption
    iexact HO
  iintro Ha
  unfold arrivals
  rw [show 0 + allChunks.length = 16 from rfl]
  icases Ha with ⟨-, Ha, HO⟩
  ihave Ha := (Entails.of_eq (arr_end X c)) $$ Ha
  icases Ha with ⟨Hr, Hzr⟩
  ihave Hc := (Entails.of_eq (chunks_end X c)) $$ Hc
  icases Hc with ⟨⟨Ho, Hzs⟩, Hb⟩
  unfold wpc
  rw [wp_ret]; imodintro
  iapply Hk
  unfold after
  isplitr [HO]
  · isplitl [Hx]; · iapply (Entails.of_eq (arg_all X c 16 17 (Or.inl (le_refl _)))) $$ Hx
    isplitl [Ho]; · iexact Ho
    isplitl [Hr]; · iexact Hr
    isplitl [Hf0 Hf1]
    · rw [both (fFree c)]
      isplitl [Hf0]; · iexact Hf0
      iexact Hf1
    isplitl [Hb]; · iexact Hb
    isplitl [Hzs]; · iexact Hzs
    isplitl [Hzr]; · iexact Hzr
    iexact Hzb
  iexact HO

end Cert.GatherProof

end
-- ==== Proof.Pack.lean ====
module

public import proofs.«01_k».proof.Proof.Whole

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring

variable {F : FTy → Type} [FloatOps F]

local notation "𝕄" => MT nD τ sig Unit (Elt F) ℕ UU ℕ

/-! ## Whole buffers and their pieces -/

variable (X : Dev nD → XTy F) (c : Dev nD)

/-- What holds of `a` holds of something. -/
theorem some_of {A : Type} (Φ : A → sProp 𝕄) (a : A) : Φ a ⊢ iprop(∃ a, Φ a) := by iintro H; iexists a; iexact H

/-- The argument is its sixteen chunks. -/
theorem arg_pieces : (((c : Thread nD τ).loc main_arg0 ↦{fullShare} (X c)) : sProp 𝕄) = bigSep Finset.univ fun j => xP (X c) c j := by
  rw [pointsTo_blocks (ℓ := (c : Thread nD τ).loc main_arg0) (fun j : Fin 16 => (rectX j).set) rectX_disjoint rectX_cover (X c)]
  exact bigSep_congr fun j _ => by rw [← set_xM j]

/-- The result is the rows of the device's own chunks and those of its neighbour's. -/
theorem out_pieces (f : OTy F) : (((c : Thread nD τ).loc main_v1 ↦{fullShare} f) : sProp 𝕄)
    = iprop((bigSep Finset.univ fun j => oP c c j f) ∗ bigSep Finset.univ fun j => oP c (tgt c) j f) := by
  rw [pointsTo_blocks (ℓ := (c : Thread nD τ).loc main_v1) (src c) (src_disjoint c) (src_cover c) f]
  refine (bigSep_univ_sum _).trans (congrArg₂ (fun a b => iprop(a ∗ b)) ?_ ?_)
  · exact bigSep_congr fun j _ => congrArg (fun s => ((c : Thread nD τ).loc main_v1 ↦[s]{fullShare} f : sProp 𝕄)) (set_oM c j).symm
  · exact bigSep_congr fun j _ => congrArg (fun s => ((c : Thread nD τ).loc main_v1 ↦[s]{fullShare} f : sProp 𝕄)) (set_oM (tgt c) j).symm

/-- Before the handshake the result's rows lie ready, half of them for the neighbour. -/
theorem out_split (f : OTy F) : (((c : Thread nD τ).loc main_v1 ↦{fullShare} f) : sProp 𝕄)
    ⊢ iprop((bigSep Finset.univ fun j => iprop(∃ f, oP (F := F) c c j f)) ∗ barPay (tgt c)) := by
  rw [out_pieces]
  unfold barPay
  rw [tgt_tgt]
  exact BIClass.sep_mono (bigSep_mono fun j _ => some_of (oP c c j) f) (bigSep_mono fun j _ => some_of (oP c (tgt c) j) f)

/-- The float32 buffer is its two slots. -/
theorem f32_split (f : S2x1024x1024.Idx → Elt F .f32) : (((c : Thread nD τ).loc cc0_scratch0 ↦{fullShare} f) : sProp 𝕄)
    ⊢ bigSep Finset.univ fun s => iprop(∃ f, fP (F := F) c s f) := by
  rw [pointsTo_blocks (ℓ := (c : Thread nD τ).loc cc0_scratch0) (fun s : Fin 2 => (rectF s).set) rectF_disjoint rectF_cover f]
  refine bigSep_mono fun s _ => ?_
  rw [← set_fM s]
  exact some_of (fP c s) f
/-- The two slots, whatever they hold, are the float32 buffer again. -/
theorem f32_join (f₀ : S2x1024x1024.Idx → Elt F .f32) : (bigSep Finset.univ fun s => iprop(∃ f, fP (F := F) c s f))
    ⊢ (iprop(∃ f : Buf (Elt F) ((c : Thread nD τ).loc cc0_scratch0), (c : Thread nD τ).loc cc0_scratch0 ↦{fullShare} f) : sProp 𝕄) := by
  refine BIBase.Entails.trans (bigSep_mono fun s _ => ?_)
    (pointsTo_blocks_join_exists (ℓ := (c : Thread nD τ).loc cc0_scratch0) (fun s : Fin 2 => (rectF s).set) rectF_disjoint rectF_cover f₀)
  rw [← set_fM s]
  exact .refl _

/-- The bfloat16 buffer is its eight. -/
theorem bf16_split (f : S8x1024x1024.Idx → Elt F .bf16) : (((c : Thread nD τ).loc cc0_scratch1 ↦{fullShare} f) : sProp 𝕄)
    ⊢ bigSep Finset.univ fun s => iprop(∃ f, bP (F := F) c s fullShare f) := by
  rw [pointsTo_blocks (ℓ := (c : Thread nD τ).loc cc0_scratch1) (fun s : Fin 8 => (rectB s).set) rectB_disjoint rectB_cover f]
  refine bigSep_mono fun s _ => ?_
  rw [← set_bM s]
  exact some_of (bP c s fullShare) f
/-- The eight slots, whatever they hold, are the bfloat16 buffer again. -/
theorem bf16_join (f₀ : S8x1024x1024.Idx → Elt F .bf16) : (bigSep Finset.univ fun s => iprop(∃ f, bP (F := F) c s fullShare f))
    ⊢ (iprop(∃ f : Buf (Elt F) ((c : Thread nD τ).loc cc0_scratch1), (c : Thread nD τ).loc cc0_scratch1 ↦{fullShare} f) : sProp 𝕄) := by
  refine BIBase.Entails.trans (bigSep_mono fun s _ => ?_)
    (pointsTo_blocks_join_exists (ℓ := (c : Thread nD τ).loc cc0_scratch1) (fun s : Fin 8 => (rectB s).set) rectB_disjoint rectB_cover f₀)
  rw [← set_bM s]
  exact .refl _

/-! ## The semaphores only their own device uses -/

/-- Those of the loads, of the copies to the own result and of the copies sent, all at zero. -/
def lows (c : Dev nD) : sProp 𝕄 :=
  iprop((bigSep Finset.univ fun s => zero c (ldS s)) ∗ (bigSep Finset.univ fun s => zero c (owS s)) ∗ bigSep Finset.univ fun j => zero c (sendS j))

/-! ## From whole buffers to the program's start, and back at its end -/

/-- The cells, positions and tokens a device gets at launch. -/
def kit (X : Dev nD → XTy F) (K : Dev nD × Option (Fin 16) → ℕ) (c : Dev nD) : sProp 𝕄 :=
  iprop((near X K c ∗ mine X K c ∗ cellInv ER (rd X) (K (c, none)) (barCell c) ∗ cellInv ER (rd X) (K (tgt c, none)) (barCell (tgt c)) ∗ reached ER (barCell (tgt c)) 0)
    ∗ ((bigSep Finset.univ fun j => atPos ER (recvCell c j) 0 ∅ 0) ∗ atPos ER (barCell c) 0 ∅ 0)
    ∗ ((bigSep Finset.univ fun j => dutyTok ER (recvCell (tgt c) j) 0 false) ∗ dutyTok ER (barCell (tgt c)) 0 false)
    ∗ lows c)
/-- The units a device may wait for: a chunk's at each arrival, one at its barrier. -/
def creds (c : Dev nD) : sProp 𝕄 :=
  iprop((bigSep Finset.univ fun j => cred (tallyAt (recvCell c j) () NB)) ∗ cred (tallyAt (barCell c) () 1))
/-- Its two working buffers, holding anything. -/
def scratch (c : Dev nD) : sProp 𝕄 :=
  iprop((∃ f : Buf (Elt F) ((c : Thread nD τ).loc cc0_scratch0), (c : Thread nD τ).loc cc0_scratch0 ↦{fullShare} f)
    ∗ ∃ f : Buf (Elt F) ((c : Thread nD τ).loc cc0_scratch1), (c : Thread nD τ).loc cc0_scratch1 ↦{fullShare} f)

/-- A device's whole buffers, its counters and its credits are what the body starts from. -/
theorem before_intro (K : Dev nD × Option (Fin 16) → ℕ) (f : OTy F) :
    iprop(levAts L lv ∗ kit X K c ∗ creds c ∗ ((c : Thread nD τ).loc main_arg0 ↦{fullShare} (X c)) ∗ ((c : Thread nD τ).loc main_v1 ↦{fullShare} f) ∗ scratch c)
      ⊢ before X K c := by
  unfold before kit creds shake lows scratch
  iintro ⟨#Hlev, ⟨⟨#Hnear, #Hmine, #HI, #HIn, #HRn⟩, ⟨Hat, Hatb⟩, ⟨Htok, Htokb⟩, Hzl, Hzo, Hzs⟩, ⟨Hcr, Hcrb⟩, Hx, Ho, ⟨%g, Hf⟩, ⟨%h, Hb⟩⟩
  ihave Hx := (Entails.of_eq (arg_pieces X c)) $$ Hx
  ihave Ho := (out_split c f) $$ Ho
  icases Ho with ⟨Ho, Hpay⟩
  ihave Hf := (f32_split c g) $$ Hf
  ihave Hb := (bf16_split c h) $$ Hb
  isplitr; · iexact Hlev
  isplitr; · iexact Hnear
  isplitr; · iexact Hmine
  isplitl [Hatb Hcrb Htokb]
  · isplitr; · iexact HI
    isplitr; · iexact HIn
    isplitr; · iexact HRn
    isplitl [Hatb]; · iexact Hatb
    isplitl [Hcrb] <;> iassumption
  isplitl [Htok]; · iexact Htok
  isplitl [Hcr]; · iexact Hcr
  isplitl [Hat]; · iexact Hat
  isplitl [Hpay]; · iexact Hpay
  isplitl [Ho]; · iexact Ho
  isplitl [Hzs]; · iexact Hzs
  isplitl [Hx]; · iexact Hx
  isplitl [Hf Hzl]
  · unfold fFree; rw [bigSep_sep']; isplitl [Hf] <;> iassumption
  unfold bFree; rw [bigSep_sep']; isplitl [Hb] <;> iassumption

/-- What a device holds at the end. -/
def final (X : Dev nD → XTy F) (c : Dev nD) : sProp 𝕄 :=
  iprop(((c : Thread nD τ).loc main_arg0 ↦{fullShare} (X c)) ∗ ((c : Thread nD τ).loc main_v1 ↦{fullShare} (res X c)) ∗ scratch c
    ∗ lows c ∗ (bigSep Finset.univ fun j => zero c (recvS j)) ∗ semVal (barCell c) 0)

/-- What the body ends with is the whole buffers again, the result filled. -/
theorem after_elim : after X c ⊢ final X c := by
  unfold after final fFree bFree lows scratch
  rw [bigSep_sep', bigSep_sep']
  iintro ⟨Hx, Ho, Hr, ⟨Hf, Hzl⟩, ⟨Hb, Hzo⟩, Hzs, Hzr, Hzb⟩
  isplitl [Hx]; · iapply (Entails.of_eq (arg_pieces X c).symm) $$ Hx
  isplitl [Ho Hr]
  · rw [out_pieces]; isplitl [Ho] <;> iassumption
  isplitl [Hf Hb]
  · isplitl [Hf]; · iapply (f32_join c (fVal (X c) 0)) $$ Hf
    iapply (bf16_join c (bVal (X c) 0)) $$ Hb
  isplitl [Hzl Hzo Hzs]
  · isplitl [Hzl]; · iexact Hzl
    isplitl [Hzo] <;> iassumption
  isplitl [Hzr] <;> iassumption

end Cert.GatherProof

end
-- ==== Proof.Launch.lean ====
module

public import proofs.«01_k».proof.Proof.Pack

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

/-- The blocks the devices start with. -/
def inX (c : Dev nD) : XTy F := m ((c : Thread nD τ).loc main_arg0)

/-! ## The kernel's own semaphores -/

/-- Loads, copies to the own result, copies sent, arrivals. -/
abbrev osem : Fin 2 ⊕ Fin 8 ⊕ Fin 16 ⊕ Fin 16 → SemLoc sig
  | .inl s => .dma (ldS s)
  | .inr (.inl s) => .dma (owS s)
  | .inr (.inr (.inl k)) => .dma (sendS k)
  | .inr (.inr (.inr k)) => .dma (recvS k)

/-- Their numbers among the transfers' semaphores. -/
def onum : Fin 2 ⊕ Fin 8 ⊕ Fin 16 ⊕ Fin 16 → ℕ :=
  Sum.elim (fun s => s.val) (Sum.elim (fun s => 2 + s.val) (Sum.elim (fun k => 10 + k.val) fun k => 26 + k.val))
/-- No two of a device's semaphores have the same number. -/
theorem onum_injective : Function.Injective onum := by
  have h2 := fun a : Fin 2 => a.isLt
  have h8 := fun a : Fin 8 => a.isLt
  have h16 := fun a : Fin 16 => a.isLt
  refine Function.Injective.sumElim Fin.val_injective (Function.Injective.sumElim ?_ (Function.Injective.sumElim ?_ ?_ ?_) ?_) ?_
  · exact fun a b h => Fin.ext (Nat.add_left_cancel h)
  · exact fun a b h => Fin.ext (Nat.add_left_cancel h)
  · exact fun a b h => Fin.ext (Nat.add_left_cancel h)
  · intro a b; have := h16 a; omega
  · rintro a (b | b) <;> (have := h8 a; simp only [Sum.elim_inl, Sum.elim_inr]; omega)
  · rintro a (b | b | b) <;> (have := h2 a; simp only [Sum.elim_inl, Sum.elim_inr]; omega)
/-- Each of a device's own semaphores is the copy semaphore of its number. -/
theorem osem_num (a : Fin 2 ⊕ Fin 8 ⊕ Fin 16 ⊕ Fin 16) : ∃ q : DmaSem sig, osem a = .dma q ∧ q.val = onum a := by
  rcases a with a | a | a | a
  · exact ⟨_, rfl, ldS_val a⟩
  · exact ⟨_, rfl, owS_val a⟩
  · exact ⟨_, rfl, sendS_val a⟩
  · exact ⟨_, rfl, recvS_val a⟩

/-- These are a kernel's own semaphores, each listed once. -/
theorem ownSemFacts : Pipeline.OwnSemFacts cfg0.spec osem where
  isScoped k := by rcases k with s | s | s | s <;> (revert s; decide)
  inj a b h := by
    obtain ⟨p, hp, hpa⟩ := osem_num a
    obtain ⟨q, hq, hqb⟩ := osem_num b
    refine onum_injective ?_
    rw [← hpa, ← hqb, SemLoc.dma.inj (hp.symm.trans (h.trans hq))]
  disj _ w := w.elim0

/-- At launch they are all at zero: those only their own device uses, and the arrivals. -/
theorem own_eq (c : Dev nD) : (Pipeline.ownSems0 (Ix := Unit) (Name := ℕ) (U := UU) (Lvl := ℕ) (Val := Elt F) (τ := τ) osem c : sProp 𝕄)
    ⊣⊢ iprop(lows c ∗ bigSep Finset.univ fun j => zero c (recvS j)) := by
  have e : (Pipeline.ownSems0 (Ix := Unit) (Name := ℕ) (U := UU) (Lvl := ℕ) (Val := Elt F) (τ := τ) osem c : sProp 𝕄)
      = iprop((bigSep Finset.univ fun s => zero c (ldS s)) ∗ (bigSep Finset.univ fun s => zero c (owS s)) ∗ (bigSep Finset.univ fun j => zero c (sendS j)) ∗ bigSep Finset.univ fun j => zero c (recvS j)) := by
    unfold Pipeline.ownSems0
    refine (bigSep_univ_sum _).trans (congrArg₂ (fun a b => iprop(a ∗ b)) rfl ?_)
    refine (bigSep_univ_sum _).trans (congrArg₂ (fun a b => iprop(a ∗ b)) rfl ?_)
    exact bigSep_univ_sum _
  rw [e]
  unfold lows
  isplit
  · iintro ⟨H1, H2, H3, H4⟩
    isplitr [H4]
    · isplitl [H1]; · iexact H1
      isplitl [H2] <;> iassumption
    iexact H4
  · iintro ⟨⟨H1, H2, H3⟩, H4⟩
    isplitl [H1]; · iexact H1
    isplitl [H2]; · iexact H2
    isplitl [H3] <;> iassumption

/-- The barrier is the one semaphore that is not the kernel's own. -/
theorem unscoped_eq (c : Dev nD) : (unscopedSems0 c : sProp 𝕄) = semVal (barCell c) 0 := by
  unfold unscopedSems0; rw [bigSep_eq_bigSepL_of_eq [SemLoc.reg barS] (by decide) (by decide)]; rfl

/-- A family over a device's shared cells: the arrivals' members and the barrier's. -/
theorem shared_eq (Φ : Option (Fin 16) → sProp 𝕄) : bigSep Finset.univ Φ = iprop((bigSep Finset.univ fun j : Fin 16 => Φ (some j)) ∗ Φ none) := by
  rw [bigSep_univ_equiv (Equiv.optionEquivSumPUnit.{0, 0} (Fin 16)).symm Φ]
  refine (bigSep_univ_sum _).trans (congrArg₂ (fun a b => iprop(a ∗ b)) rfl ?_)
  exact bigSep_univ_of_subsingleton PUnit.unit

/-! ## What the launch deals out -/

/-- Different kinds are different semaphores. -/
theorem csem_injective : Function.Injective csem := fun a b h => Option.some.inj ((kind_csem a).symm.trans ((congrArg kind h).trans (kind_csem b)))
/-- Different devices or kinds are different cells. -/
theorem kcell_injective : Function.Injective kcell := fun a b h => by
  have h1 : a.1 = b.1 := congrArg (fun g : GSem nD τ sig => g.1.1) h
  have h2 : a.2 = b.2 := csem_injective (congrArg (fun g : GSem nD τ sig => g.2) h)
  exact Prod.ext h1 h2
def sharedCells : Finset (GSem nD τ sig) := Finset.univ.map ⟨kcell, kcell_injective⟩
def tokOf (co : Dev nD × Option (Fin 16)) : GSem nD τ sig × ℕ × Bool := (kcell co, 0, false)
/-- Different cells have different tokens. -/
theorem tokOf_injective : Function.Injective tokOf := fun _ _ h => kcell_injective (congrArg Prod.fst h)
def sharedToks : Finset (GSem nD τ sig × ℕ × Bool) := Finset.univ.map ⟨tokOf, tokOf_injective⟩

def u₀ : UU := (initOf (Pipeline.cells cfgs cellOf_inj) (Pipeline.launchToks cfgs cellOf_inj), (initOf sharedCells sharedToks, 1))

/-- For each of its shared cells a device is dealt the cell's state, its position and its token. -/
def dealt (c : Dev nD) (o : Option (Fin 16)) : sProp 𝕄 :=
  iprop((roundState ER (rd (inX m)) (kcell (c, o)) 0 ∗ reached ER (kcell (c, o)) 0) ∗ atPos ER (kcell (c, o)) 0 ∅ 0 ∗ dutyTok ER (kcell (c, o)) 0 false)
def G (c : Dev nD) : sProp 𝕄 := bigSep Finset.univ (dealt m c)
def G' (c : Dev nD) : sProp 𝕄 := iprop(∃ K, kit (inX m) K c)

/-- The launch's element deals each device its share for each of its cells. -/
theorem deal : BI.own (ER (initOf sharedCells sharedToks)) ⊢ (|==> bigSep Finset.univ (G m) : sProp 𝕄) := by
  have hX (Φ : GSem nD τ sig → sProp 𝕄) : bigSep sharedCells Φ = bigSep Finset.univ fun c : Dev nD => bigSep Finset.univ fun o => Φ (kcell (c, o)) := by
    unfold sharedCells; rw [bigSep_map, bigSep_univ_prod]; rfl
  have hT : bigSep sharedToks (fun x => (dutyTok ER x.1 x.2.1 x.2.2 : sProp 𝕄)) = bigSep Finset.univ fun c : Dev nD => bigSep Finset.univ fun o => dutyTok ER (kcell (c, o)) 0 false := by
    unfold sharedToks; rw [bigSep_map, bigSep_univ_prod]; rfl
  iintro H
  imod (Rounds.fund ER (rd (inX m)) sharedCells sharedToks) $$ H with ⟨Hst, Hr, Hat, Htok⟩
  imodintro
  ihave Hst := (Entails.of_eq (hX fun g => roundState ER (rd (inX m)) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold G dealt
  simp only [bigSep_sep']
  isplitl [Hst Hr]; · isplitl [Hst] <;> iassumption
  isplitl [Hat] <;> iassumption

/-! ## From there to every device's kit -/

/-- A shared cell set up: its invariant under some name, that its first round is open, the position, the token. -/
def opened (c : Dev nD) (o : Option (Fin 16)) : sProp 𝕄 :=
  iprop(((∃ κ : ℕ, cellInv ER (rd (inX m)) κ (kcell (c, o))) ∗ reached ER (kcell (c, o)) 0) ∗ atPos ER (kcell (c, o)) 0 ∅ 0 ∗ dutyTok ER (kcell (c, o)) 0 false)

/-- A shared cell's counter at zero, with the share dealt for it, opens the cell. -/
theorem open_cell (c : Dev nD) (o : Option (Fin 16)) : iprop(semVal (kcell (c, o)) 0 ∗ dealt m c o) ⊢ |={Set.univ}=> opened m c o := by
  unfold dealt opened
  iintro ⟨Hz, ⟨Hst, Hr⟩, Hat, Htok⟩
  imod ((Rounds.body_intro ER (rd (inX m)) (kcell (c, o))).trans inv_alloc) $$ [Hz Hst] with HI
  · isplitl [Hz] <;> iassumption
  imodintro
  isplitl [HI Hr]; · isplitl [HI] <;> iassumption
  isplitl [Hat] <;> iassumption

/-- One device's share of the set-up. -/
theorem open_device (c : Dev nD) :
    iprop(Pipeline.ownSems0 (Ix := Unit) (Name := ℕ) (U := UU) (Lvl := ℕ) (Val := Elt F) (τ := τ) osem c ∗ unscopedSems0 c ∗ G m c)
      ⊢ |={Set.univ}=> iprop(lows c ∗ bigSep Finset.univ (opened m c)) := by
  iintro ⟨Hos, Hus, HG⟩
  ihave Ho := (own_eq (F := F) c).1 $$ Hos
  icases Ho with ⟨Hl, Hr⟩
  ihave Hb := (Entails.of_eq (unscoped_eq (F := F) c)) $$ Hus
  ihave Hz := (Entails.of_eq (shared_eq (F := F) fun o => semVal (kcell (c, o)) 0).symm) $$ [Hr Hb]
  · isplitl [Hr] <;> iassumption
  imod (show iprop((bigSep Finset.univ fun o => semVal (kcell (c, o)) 0) ∗ G m c) ⊢ (|={Set.univ}=> bigSep Finset.univ (opened m c) : sProp 𝕄) from by
    unfold G
    rw [← bigSep_sep']
    exact (bigSep_mono fun o _ => open_cell m c o).trans (bigSep_fupd _ _)) $$ [Hz HG] with H
  · isplitl [Hz] <;> iassumption
  imodintro
  isplitl [Hl] <;> iassumption

/-- What all devices may look up of all shared cells. -/
def known (K : Dev nD × Option (Fin 16) → ℕ) : sProp 𝕄 :=
  bigSep Finset.univ fun co : Dev nD × Option (Fin 16) => iprop(cellInv ER (rd (inX m)) (K co) (kcell co) ∗ reached ER (kcell co) 0)
instance known_persistent (K : Dev nD × Option (Fin 16) → ℕ) : BI.Persistent (known m K) := by unfold known; infer_instance
/-- Out of all the cells' invariants, one. -/
theorem known_at (K : Dev nD × Option (Fin 16) → ℕ) (c : Dev nD) (o : Option (Fin 16)) :
    known m K ⊢ iprop(cellInv ER (rd (inX m)) (K (c, o)) (kcell (c, o)) ∗ reached ER (kcell (c, o)) 0) := by
  unfold known; exact bigSep_elim (Finset.mem_univ (c, o))

/-- Out of all the cells' invariants, those of the neighbour's that a device credits. -/
theorem known_near (K : Dev nD × Option (Fin 16) → ℕ) (c : Dev nD) : known m K ⊢ near (inX m) K c := by
  unfold near
  exact (BI.bigSep_of_persistent Finset.univ (known m K)).trans (bigSep_mono fun j _ => known_at m K (tgt c) (some j))
/-- Out of all the cells' invariants, those of a device's own receives. -/
theorem known_mine (K : Dev nD × Option (Fin 16) → ℕ) (c : Dev nD) : known m K ⊢ mine (inX m) K c := by
  unfold mine
  refine (BI.bigSep_of_persistent Finset.univ (known m K)).trans (bigSep_mono fun j _ => ?_)
  exact (known_at m K c (some j)).trans (by iintro ⟨H, -⟩; iexact H)

/-- A device's own part: its positions, its neighbour's tokens, its own semaphores. -/
def part (c : Dev nD) : sProp 𝕄 :=
  iprop((bigSep Finset.univ fun o => atPos ER (kcell (c, o)) 0 ∅ 0) ∗ (bigSep Finset.univ fun o => dutyTok ER (kcell (tgt c, o)) 0 false) ∗ lows c)

/-- The invariants known to all and a device's own part are the device's kit. -/
theorem kit_intro (K : Dev nD × Option (Fin 16) → ℕ) (c : Dev nD) : iprop(known m K ∗ part c) ⊢ G' m c := by
  unfold part G' kit
  iintro ⟨#HK, Hat, Htok, Hl⟩
  ihave Hat := (Entails.of_eq (shared_eq (F := F) fun o => atPos ER (kcell (c, o)) 0 ∅ 0)) $$ Hat
  ihave Htok := (Entails.of_eq (shared_eq (F := F) fun o => dutyTok ER (kcell (tgt c, o)) 0 false)) $$ Htok
  ihave #H1 := (known_at m K c none) $$ HK
  ihave #H2 := (known_at m K (tgt c) none) $$ HK
  icases H1 with ⟨#HI, -⟩
  icases H2 with ⟨#HIn, #HRn⟩
  iexists K
  isplitr
  · isplitr; · iapply (known_near m K c); iexact HK
    isplitr; · iapply (known_mine m K c); iexact HK
    isplitr; · iexact HI
    isplitr; · iexact HIn
    iexact HRn
  isplitl [Hat]; · iexact Hat
  isplitl [Htok]; · iexact Htok
  iexact Hl

/-- The tokens change hands: each device gets its neighbour's, which it pays with. -/
theorem tokens_swap : (bigSep Finset.univ fun c : Dev nD => bigSep Finset.univ fun o => (dutyTok ER (kcell (c, o)) 0 false : sProp 𝕄))
    = bigSep Finset.univ fun c : Dev nD => bigSep Finset.univ fun o => dutyTok ER (kcell (tgt c, o)) 0 false :=
  bigSep_univ_equiv swap _

/-- With every device's cells opened each device gets its kit. -/
theorem share_out : (bigSep Finset.univ fun c : Dev nD => iprop(lows c ∗ bigSep Finset.univ (opened m c)) : sProp 𝕄) ⊢ bigSep Finset.univ (G' m) := by
  unfold opened
  simp only [bigSep_sep']
  rw [← bigSep_univ_prod (fun co : Dev nD × Option (Fin 16) => iprop(∃ κ : ℕ, cellInv ER (rd (inX m)) κ (kcell co))),
    ← bigSep_univ_prod (fun co : Dev nD × Option (Fin 16) => (reached ER (kcell co) 0 : sProp 𝕄)), tokens_swap]
  iintro ⟨Hl, ⟨HI, HR⟩, Hat, Htok⟩
  ihave HK := (BI.bigSep_exists_pi Finset.univ (fun (co : Dev nD × Option (Fin 16)) (κ : ℕ) => (cellInv ER (rd (inX m)) κ (kcell co) : sProp 𝕄))) $$ HI
  icases HK with ⟨%K, HI⟩
  iapply (show iprop(known m K ∗ bigSep Finset.univ fun c => part c) ⊢ bigSep Finset.univ (G' m) from
    (BIClass.sep_mono (BI.bigSep_of_persistent Finset.univ (known m K)) .rfl).trans (by rw [← bigSep_sep']; exact bigSep_mono fun c _ => kit_intro m K c))
  isplitl [HI HR]
  · unfold known; rw [bigSep_sep']; isplitl [HI] <;> iassumption
  unfold part
  simp only [bigSep_sep']
  isplitl [Hat]; · iexact Hat
  isplitl [Htok] <;> iassumption

/-- The launch as a whole: every device's kit, from the counters at zero and what was dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_device m c).trans (bigSep_fupd _ _)).trans (BI.fupd_mono (share_out m))

/-! ## The units a device may wait for at launch -/

/-- What device `d` owes a shared cell of device `c`: the cell's one duty if they are neighbours. -/
theorem owed_shared (d c : Dev nD) (o : Option (Fin 16)) :
    owe₀ d (kcell (c, o)) () = if d = tgt c then (if o = none then 1 else NB) else 0 := by
  have hc : ∀ a b : Option (Fin 16), (kcell (c, a) = kcell (tgt d, b)) ↔ (d = tgt c ∧ a = b) := fun a b => by
    rw [kcell_injective.eq_iff, Prod.mk.injEq]
    exact and_congr_left fun _ => ⟨fun h => by rw [h, tgt_tgt], fun h => by rw [h, tgt_tgt]⟩
  unfold owe₀
  rw [Pi.add_apply, Finsupp.add_apply, owe_apply]
  simp only [tallyAt_apply, and_true]
  have e1 : ∀ j : Fin 16, (kcell (c, o) = recvCell (tgt d) j) ↔ (d = tgt c ∧ o = some j) := fun j => hc o (some j)
  have e2 : (kcell (c, o) = barCell (tgt d)) ↔ (d = tgt c ∧ o = none) := hc o none
  simp only [e1, e2]
  by_cases h : d = tgt c
  · cases o with
    | none => simp [h]
    | some k => simp [h]
  · simp [h]

/-- A device's launch credit for one shared cell. -/
theorem credit_shared (c : Dev nD) (o : Option (Fin 16)) :
    tallyOn (kcell (c, o)) (launchCredit (Pipeline.owing owe₀) 0 (kcell (c, o))) = (tallyAt (kcell (c, o)) () (if o = none then 1 else NB) : CellTallies nD τ sig Unit) := by
  unfold tallyAt
  refine congrArg _ (Finsupp.ext fun u => ?_)
  cases u
  rw [Pipeline.launchCredit_owing, Finsupp.single_eq_same, Finset.sum_congr rfl fun d _ => owed_shared d c o,
    Finset.sum_ite_eq' Finset.univ (tgt c) fun _ => _, if_pos (Finset.mem_univ _)]

/-- The launch credit is a credit for each of a device's shared cells. -/
theorem creds_intro (c : Dev nD) : (Pipeline.launchCred owe₀ c : sProp 𝕄) ⊢ creds c := by
  unfold Pipeline.launchCred creds
  rw [bigSep_sdiff_split (Finset.subset_univ (Finset.univ.map ⟨csem, csem_injective⟩)), bigSep_map]
  refine BIBase.Entails.trans (BIClass.sep_mono (Entails.of_eq (bigSep_congr (Ψ := fun o => cred (tallyAt (kcell (c, o)) () (if o = none then 1 else NB)))
    fun o _ => congrArg cred (credit_shared c o))) .rfl) ?_
  rw [shared_eq]
  exact sep_elim_left

end Cert.GatherProof

end
-- ==== Proof.Run.lean ====
module

public import proofs.«01_k».proof.Proof.Launch
public import Idealize.ShloMosaic.Lib.Pipeline.CollectiveSegs

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The launch's data -/

/-- Before the kernel, apart from the two working buffers. -/
def start (c : Dev nD) : sProp 𝕄 :=
  iprop(levAts L lv ∗ G' m c ∗ creds c ∗ ((c : Thread nD τ).loc main_arg0 ↦{fullShare} (inX m c))
    ∗ ∃ f : Buf (Elt F) ((c : Thread nD τ).loc main_v1), (c : Thread nD τ).loc main_v1 ↦{fullShare} f)

def dats (_ : Fin 1) (c : Dev nD) : Dat τ (Elt F) Unit ℕ UU ℕ cfg0 c where
  A w := w.elim0
  after w _ := w.elim0
  Φ t := if t.val = 0 then iprop(start m c ∗ scratch c) else final (inX m) c
  q _ := fullShare
  owed t := if t.val = 0 then owe₀ c else 0

/-- The kernel has no staged windows. -/
theorem no_windows (Φ : Fin cfg0.W → sProp 𝕄) : bigSep Finset.univ Φ = iprop(emp) := rfl

set_option maxRecDepth 65536 in
/-- The kernel on one device, from what the launch gives it to what it gives back. -/
theorem body_obligation (c : Dev nD) : BodyObligation (dats m 0 c) (defs₀ (F := F)) 𝒱₀ () Set.univ := fun t => by
  rw [fin_N0 t, no_windows, no_windows]
  show iprop(iprop(start m c ∗ scratch c) ∗ (dats m 0 c).owesAt () t0_0.castSucc ∗ emp)
    ⊢ wpc c (bodyAt0 t0_0) fun _ => iprop(final (inX m) c ∗ (dats m 0 c).owesAt () t0_0.succ ∗ emp)
  rw [body_eq]
  unfold start G' Dat.owesAt Pipeline.owesWithin
  rw [show (dats m 0 c).owed t0_0.castSucc = owe₀ c from rfl, show (dats m 0 c).owed t0_0.succ = 0 from rfl]
  iintro ⟨⟨⟨#Hlev, ⟨%K, HK⟩, Hcr, Hx, ⟨%f, Ho⟩⟩, Hs⟩, ⟨%W, %hW, HO⟩, -⟩
  unfold wpc
  rw [wp_deviceId]
  iapply (prog_step (inX m) K c _ W)
  isplitl [HK Hcr Hx Ho Hs]
  · iapply (before_intro (inX m) c K f)
    isplitr; · iexact Hlev
    isplitl [HK]; · iexact HK
    isplitl [Hcr]; · iexact Hcr
    isplitl [Hx]; · iexact Hx
    isplitl [Ho] <;> iassumption
  isplitl [HO]; · iexact HO
  iintro ⟨Ha, ⟨%W2, HO⟩⟩
  isplitl [Ha]; · iapply (after_elim (inX m) c) $$ Ha
  isplitl [HO]
  · iexists W2
    isplitr; · ipureintro; exact fun _ _ => Or.inl trivial
    iexact HO
  iempintro

/-! ## Into the kernel and out of it -/

/-- What a device holds at launch is what `start` says. -/
theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' m c)
      ⊢ |={Set.univ}=> iprop(start m c ∗ emp) := by
  rw [Pipeline.unscopedRestP_none, unscopedRest0_eq]
  unfold start inX
  iintro ⟨⟨Hx, Ho⟩, Hlev, Hcr, -, HG⟩
  ihave Hc := (creds_intro (F := F) c) $$ Hcr
  imodintro
  isplitl
  · isplitl [Hlev]; · iexact Hlev
    isplitl [HG]; · iexact HG
    isplitl [Hc]; · iexact Hc
    isplitl [Hx]; · iexact Hx
    iexists _; iexact Ho
  · iempintro

/-- Entering the kernel. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

/-- What a device shows at the end: its argument as it was, the result, its barrier at rest. -/
def shown (c : Dev nD) : sProp 𝕄 :=
  iprop(((c : Thread nD τ).loc main_arg0 ↦{fullShare} (inX m c)) ∗ ((c : Thread nD τ).loc main_v1 ↦{fullShare} (res (inX m) c)) ∗ unscopedSems0 c)

/-- Leaving it: the arrays as `shown` says, the counters at zero, the working buffers given back. -/
theorem leave (c : Dev nD) : (dats m 0 c).Φ (Fin.last cfg0.N) ⊢ iprop(shown m c ∗ Pipeline.ownSems0 osem c ∗ Pipeline.scopedRest cfg0.spec c) := by
  rw [show (dats m 0 c).Φ (Fin.last cfg0.N) = final (inX m) c from rfl, scopedRest0_eq]
  unfold final scratch shown
  rw [unscoped_eq]
  iintro ⟨Hx, Ho, Hs, Hl, Hr, Hb⟩
  isplitl [Hx Ho Hb]
  · isplitl [Hx]; · iexact Hx
    isplitl [Ho] <;> iassumption
  isplitl [Hl Hr]
  · iapply (own_eq (F := F) c).2
    isplitl [Hl] <;> iassumption
  iexact Hs

/-- Read off the memory. -/
theorem shown_read (c : Dev nD) (s' : Phys nD τ sig (Elt F)) :
    iprop(shown m c ∗ SI s') ⊢ |={Set.univ}=> iprop(⌜(s'.mem.mem ((c : Thread nD τ).loc main_arg0) = inX m c ∧ s'.mem.mem ((c : Thread nD τ).loc main_v1) = res (inX m) c)
        ∧ ∀ sm : SemLoc sig, sm.isScoped .tc = false → s'.mem.sem ((c : Thread nD τ), sm) = 0⌝ ∗ SI s') := by
  unfold shown
  iintro ⟨⟨Hx, Ho, Hu⟩, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨⟨Buf.eq_of_forall_mem_univ hx, Buf.eq_of_forall_mem_univ ho⟩, hu⟩
  iexact HSI

/-- No wait of the launch's own can block: the kernel has no windows. -/
theorem waits (c : Dev nD) : (levAts L lv : sProp 𝕄) ⊢ Pipeline.cellsWaits cfgs (dats m) () 0 c :=
  Pipeline.cellsWaits_intro cfgs (dats m) () 0 c fun w => w.elim0

/-! ## The run -/

/-- Every device's argument is as it was and its result the rows of its own and its neighbour's block, rounded. -/
def Gathered (s : MemSt nD τ sig (Elt F)) : Prop :=
  ∀ c : Dev nD, s.mem ((c : Thread nD τ).loc main_arg0) = inX m c ∧ s.mem ((c : Thread nD τ).loc main_v1) = res (inX m) c

set_option maxRecDepth 65536 in
/-- From any memory with every counter at zero each fair execution on the sixteen devices ends, in such a state, every counter at zero again. -/
theorem run_main : θ_run defs (onTc (τ := τ) (main (F := F))) ⟨m, fun _ => 0, ρ⟩ (fun r => Gathered m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owe₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb (F := embR) _ _) $$ HX
      icases H with ⟨HX, -⟩
      ihave HX := (show BI.own (((Emb.inl : Emb UB (UB × Counters)).trans embR) (initOf sharedCells sharedToks)) ⊢ (BI.own (ER (initOf sharedCells sharedToks)) : sProp 𝕄) from .rfl) $$ HX
      imod (deal m) $$ HX with HG
      imodintro
      isplitl [HP] <;> iassumption)
    (hglob := glob m)
    (hA := fun _ w => w.elim0) (hpf := fun _ k => k.elim0)
    (X := start m) (Y := shown m) (Z := fun _ => iprop(emp))
    (hX := start_intro m ρ) (hin := enter m) (hout := leave m)
    (QY := fun c s => (s.mem ((c : Thread nD τ).loc main_arg0) = inX m c ∧ s.mem ((c : Thread nD τ).loc main_v1) = res (inX m) c)
      ∧ ∀ sm : SemLoc sig, sm.isScoped .tc = false → s.sem ((c : Thread nD τ), sm) = 0)
    (hY := fun c s' => by
      iintro ⟨Hu, -, HSI⟩
      iapply (shown_read m c s')
      isplitl [Hu] <;> iassumption)
    (hQ := fun _ h hs => ⟨fun c => (h c).2.2.1, sem_eq_zero hs fun c => (h c).2.2.2⟩)

end Cert.GatherProof

end
-- ==== Proof.Value.lean ====
module

public import proofs.«01_k».proof.Proof.Run
public import Idealize.ShloMosaic.Lib.Layout

@[expose] public section

noncomputable section

namespace Cert.GatherProof

open Cert.KernelIdeal Cert.KernelIdeal.Gen
open Idealize.ShloMosaic Idealize.ShloMosaic.TcCoe Idealize.ShloMosaic.ValueIdx
open Idealize.SL.Sem

variable {F : FTy → Type} [FloatOps F]

/-! ## The gathered rows are the whole array, rounded -/

/-- The half of the whole array that device `c` is given. -/
abbrev halfOf (W : S32768x1024.Idx → Elt F .f32) (c : Dev nD) : XTy F :=
  Layout.blockN ⟨2, ![16384, 1024]⟩ ⟨2, ![32768, 1024]⟩ (Layout.meshBlock [2, 2, 4] ![[1], []] c) W

/-- A device is given the half that its place along the mesh's middle axis names. -/
theorem place_eq (c : Dev nD) : Layout.meshLin [2, 2, 4] c.val [1] = yOf c := by
  revert c; decide

/-- The device whose half holds row `i 0` lies at that half's place. -/
theorem yOf_owner (c : Dev nD) (i : S32768x1024.Idx) : yOf (owner c i) = (i 0).val / 16384 := by
  have hy := yOf_tgt c
  have hl := yOf_lt c
  have h0 : (i 0).val < 32768 := (i 0).isLt
  unfold owner
  split <;> omega

/-- Where every device is given its half of `W`, what each ends with is all of `W`, rounded. -/
theorem res_halves (W : S32768x1024.Idx → Elt F .f32) (c : Dev nD) : res (halfOf W) c = fun i => tr (W i) := by
  funext i
  refine congrArg (fun j => tr (W j)) (funext fun b => Fin.ext ?_)
  rw [Layout.TilesN.idx_val, Layout.meshBlock_val]
  have h := yOf_owner c i
  have hp := place_eq (owner c i)
  match b with
  | ⟨0, _⟩ =>
    change Layout.meshLin [2, 2, 4] (owner c i).val [1] * 16384 + (i 0).val % 16384 = (i 0).val
    omega
  | ⟨1, _⟩ =>
    change 0 * 1024 + (i 1).val = (i 1).val
    omega

/-- The run, told of the whole array: each device's result is all of it, rounded, and its argument is as it was. -/
theorem run_whole (m : (ℓ : Loc nD τ sig) → Buf (Elt F) ℓ) (ρ : Dev nD → PrngReg) (W : S32768x1024.Idx → Elt F .f32)
    (h : ∀ c : Dev nD, inX m c = halfOf W c) :
    θ_run defs (onTc (τ := τ) (main (F := F))) ⟨m, fun _ => 0, ρ⟩ (fun r => ∀ c : Dev nD,
      r.2.mem ((c : Thread nD τ).loc main_v1) = (fun i => tr (W i))
      ∧ r.2.mem ((c : Thread nD τ).loc main_arg0) = m ((c : Thread nD τ).loc main_arg0)) :=
  (θ_run defs _ _).mono (fun _ H c => ⟨(H.1 c).2.trans (by rw [funext h]; exact res_halves W c), (H.1 c).1⟩) (run_main m ρ)

end Cert.GatherProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Value

@[expose] public section

noncomputable section

namespace Cert.Proof

open Idealize.ShloMosaic Idealize.SL.Sem
open Cert.GatherProof (run_main run_whole)

/-- The kernel over machine floats ends without a fault, its arguments unchanged and every counter at zero. -/
theorem frame_kernel : Cert.quiescent_Kernel := fun m ρ _ =>
  (θ_run Cert.KernelIdeal.defs _ _).mono (fun _ h => ⟨fun c => (h.1 c).1, h.2⟩) (run_main (F := Bits) m ρ)

/-- The same over the extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference, one rounding of its argument, ends so over machine floats. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- And over the extended reals. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's, the whole array rounded once, bit for bit. -/
theorem same_bits : Cert.bitexact_Kernel_Reference := fun m ρ m' ρ' _ h =>
  ⟨_, run_whole (F := Bits) m ρ _ h,
    (θ_run Cert.Reference.defs _ _).mono (fun _ H => H 0) (Cert.Reference.Value.run (F := Bits) m' ρ')⟩

/-- Every device's result is the reference's over the extended reals. -/
theorem same_value : Cert.algebraic_KernelIdeal_ReferenceIdeal := fun m ρ m' ρ' _ h =>
  ⟨_, run_whole (F := Ideal) m ρ _ h,
    (θ_run Cert.ReferenceIdeal.defs _ _).mono (fun _ H => H 0) (Cert.ReferenceIdeal.Value.run (F := Ideal) m' ρ')⟩

/-- All the claims together. -/
theorem claim : Cert.Claim :=
  ⟨Cert.Kernel.Gen.facts, Cert.KernelIdeal.Gen.facts, Cert.Reference.Gen.facts, Cert.ReferenceIdeal.Gen.facts,
    frame_kernel, frame_kernelIdeal, frame_reference, frame_referenceIdeal, trivial, same_bits, same_value⟩

end Cert.Proof

end
